-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v36) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
-- ==== Pre_finite_scores.lean ====
abbrev S16384x3584 : Shape := ⟨2, ![16384, 3584]⟩
abbrev S16384x1024 : Shape := ⟨2, ![16384, 1024]⟩
abbrev S2x8x16x128x512 : Shape := ⟨5, ![2, 8, 16, 128, 512]⟩
abbrev S16384x2048 : Shape := ⟨2, ![16384, 2048]⟩
abbrev S16384x8x128 : Shape := ⟨3, ![16384, 8, 128]⟩
abbrev S16384x8x6 : Shape := ⟨3, ![16384, 8, 6]⟩
abbrev S_ : Shape := ⟨0, ![]⟩

class Facts : Prop where
  slices_S16384x3584_S16384x2048_0_1536 : S16384x3584.Slices ![0, 1536] S16384x2048
  bitsLt_bf16_f32 : FTy.bits .bf16 < FTy.bits .f32
  shapeCasts_S16384x1024_S16384x8x128 : S16384x1024.ShapeCasts S16384x8x128
  slices_S16384x8x128_S16384x8x6_0_0_0 : S16384x8x128.Slices ![0, 0, 0] S16384x8x6
  bcast_S_S16384x2048 : S_.BroadcastsInDim S16384x2048 (![] : Fin 0 → Fin S16384x2048.rank)
  bcast_S_S16384x8x6 : S_.BroadcastsInDim S16384x8x6 (![] : Fin 0 → Fin S16384x8x6.rank)

variable [Facts]

def fn {F : FTy → Type} [FloatOps F] (main_arg0 : FVec F S16384x3584 .bf16) (main_arg1 : FVec F S16384x1024 .bf16) (main_arg2 : FVec F S2x8x16x128x512 .bf16) : IVec S16384x2048 1 × IVec S16384x8x6 1 :=
  let main_v0 : FVec F S16384x2048 .bf16 := (extractStridedSlice S16384x2048 ![0, 1536] · slices_S16384x3584_S16384x2048_0_1536) main_arg0
  let main_v1 : FVec F S16384x2048 .f32 := (extf .f32 · bitsLt_bf16_f32) main_v0
  let main_v2 : FVec F S16384x1024 .f32 := (extf .f32 · bitsLt_bf16_f32) main_arg1
  let main_v3 : FVec F S16384x8x128 .f32 := shapeCast S16384x8x128 main_v2 shapeCasts_S16384x1024_S16384x8x128
  let main_v4 : FVec F S16384x8x6 .f32 := (extractStridedSlice S16384x8x6 ![0, 0, 0] · slices_S16384x8x128_S16384x8x6_0_0_0) main_v3
  let main_v5 : FVec F S16384x2048 .f32 := Host.absf main_v1
  let main_cst : FVec F S_ .f32 := constant S_ .f32 0x7F800000#32
  let main_v6 : FVec F S16384x2048 .f32 := broadcastInDim S16384x2048 ![] bcast_S_S16384x2048 main_cst
  let main_v7 : IVec S16384x2048 1 := cmpf .olt main_v5 main_v6
  let main_v8 : FVec F S16384x8x6 .f32 := Host.absf main_v4
  let main_cst_0 : FVec F S_ .f32 := constant S_ .f32 0x7F800000#32
  let main_v9 : FVec F S16384x8x6 .f32 := broadcastInDim S16384x8x6 ![] bcast_S_S16384x8x6 main_cst_0
  let main_v10 : IVec S16384x8x6 1 := cmpf .olt main_v8 main_v9
  (main_v7, main_v10)
-- ==== Kernel.lean ====
abbrev S16384x3584 : Shape := ⟨2, ![16384, 3584]⟩
abbrev S16384x1024 : Shape := ⟨2, ![16384, 1024]⟩
abbrev S2x8x16x128x512 : Shape := ⟨5, ![2, 8, 16, 128, 512]⟩
abbrev S512x128 : Shape := ⟨2, ![512, 128]⟩
abbrev S8192x128 : Shape := ⟨2, ![8192, 128]⟩
abbrev S1x1x16x128x512 : Shape := ⟨5, ![1, 1, 16, 128, 512]⟩
abbrev S512x512 : Shape := ⟨2, ![512, 512]⟩
abbrev S2x2x512x512 : Shape := ⟨4, ![2, 2, 512, 512]⟩
abbrev S2x80x512 : Shape := ⟨3, ![2, 80, 512]⟩
abbrev S128x512 : Shape := ⟨2, ![128, 512]⟩
abbrev S256x512 : Shape := ⟨2, ![256, 512]⟩
abbrev S1x512 : Shape := ⟨2, ![1, 512]⟩
abbrev S512x256 : Shape := ⟨2, ![512, 256]⟩
abbrev S1x1x512x512 : Shape := ⟨4, ![1, 1, 512, 512]⟩
abbrev S512 : Shape := ⟨1, ![512]⟩
abbrev S16x512 : Shape := ⟨2, ![16, 512]⟩
abbrev S1x1x1x64x512 : Shape := ⟨5, ![1, 1, 1, 64, 512]⟩
abbrev S64x512 : Shape := ⟨2, ![64, 512]⟩
abbrev S80x512 : Shape := ⟨2, ![80, 512]⟩
abbrev S1x80x512 : Shape := ⟨3, ![1, 80, 512]⟩
abbrev S1x64x512 : Shape := ⟨3, ![1, 64, 512]⟩
abbrev S1x1x512 : Shape := ⟨3, ![1, 1, 512]⟩

abbrev nBuf : Space → Nat
  | .hbm => 4
  | .vmem => 13
  | .smem => 0
  | _ => 0

abbrev bufTy : (tb : Table) → Fin (tcTables nBuf tb) → BufTy
  | .hbm, ⟨0, _⟩ => ⟨S16384x3584, .bf16⟩
  | .hbm, ⟨1, _⟩ => ⟨S16384x1024, .bf16⟩
  | .hbm, ⟨2, _⟩ => ⟨S2x8x16x128x512, .bf16⟩
  | .hbm, ⟨3, _⟩ => ⟨S16384x1024, .bf16⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x1x16x128x512, .bf16⟩
  | .local _ .vmem, ⟨7, _⟩ => ⟨S1x1x16x128x512, .bf16⟩
  | .local _ .vmem, ⟨8, _⟩ => ⟨S512x128, .bf16⟩
  | .local _ .vmem, ⟨9, _⟩ => ⟨S512x128, .bf16⟩
  | .local _ .vmem, ⟨10, _⟩ => ⟨S512x512, .f32⟩
  | .local _ .vmem, ⟨11, _⟩ => ⟨S2x2x512x512, .f32⟩
  | .local _ .vmem, ⟨12, _⟩ => ⟨S2x80x512, .f32⟩
  | _, _ => ⟨S16384x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 16], ![false, false, false]⟩

def k0_mult1 (i : grid0.Coords) : BitVec 32 :=
  let arg2 : BitVec 32 := BitVec.ofNat 32 (i 2).val
  let c512_i32 : BitVec 32 := 512#32
  let v47 : BitVec 32 := Scalar.muli arg2 c512_i32
  v47
def k0_off1 (i : grid0.Coords) : Fin 2 → Nat :=
  let arg2 : BitVec 32 := BitVec.ofNat 32 (i 2).val
  let c512_i32 : BitVec 32 := 512#32
  let v47 : BitVec 32 := Scalar.muli arg2 c512_i32
  let v48 : BitVec 32 := v47
  let v49 : Index := Scalar.indexCast v48
  let c0_17 : Index := 0#32
  ![v49.toNat, 0]
@[reducible] def k0_t1_loop (i : grid0.Coords) : Scf.Loop 32 :=
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_41 : BitVec 32 := 1#32
  ⟨c0_i32_39, v91, c1_i32_41⟩
def k0_mult2 (i : grid0.Coords) (k0_t1 : Fin (k0_t1_loop i).trips) : BitVec 32 :=
  let c4_i32_61 : BitVec 32 := 4#32
  let c0_i32_39 : BitVec 32 := 0#32
  let c1_i32_41 : BitVec 32 := 1#32
  let arg11 : BitVec 32 := Scf.iv c0_i32_39 c1_i32_41 k0_t1
  let v127 : BitVec 32 := Scalar.muli c4_i32_61 arg11
  let c512_i32_62 : BitVec 32 := 512#32
  let v128 : BitVec 32 := Scalar.muli v127 c512_i32_62
  v128
def k0_off2 (i : grid0.Coords) (k0_t1 : Fin (k0_t1_loop i).trips) : Fin 2 → Nat :=
  let c4_i32_61 : BitVec 32 := 4#32
  let c0_i32_39 : BitVec 32 := 0#32
  let c1_i32_41 : BitVec 32 := 1#32
  let arg11 : BitVec 32 := Scf.iv c0_i32_39 c1_i32_41 k0_t1
  let v127 : BitVec 32 := Scalar.muli c4_i32_61 arg11
  let c512_i32_62 : BitVec 32 := 512#32
  let v128 : BitVec 32 := Scalar.muli v127 c512_i32_62
  let v129 : BitVec 32 := v128
  let v130 : Index := Scalar.indexCast v129
  let c0_63 : Index := 0#32
  ![v130.toNat, 0]
def k0_off3 (arg16 : BitVec 32) : Fin 5 → Nat :=
  let c0_86 : Index := 0#32
  let c0_87 : Index := 0#32
  let v166 : Index := Scalar.indexCast arg16
  let c0_88 : Index := 0#32
  let c0_89 : Index := 0#32
  ![0, 0, v166.toNat, 0, 0]

def k0_off4 (arg16 : BitVec 32) : Fin 5 → Nat :=
  let c0_91 : Index := 0#32
  let c0_92 : Index := 0#32
  let v171 : Index := Scalar.indexCast arg16
  let c64 : Index := 64#32
  let c0_93 : Index := 0#32
  ![0, 0, v171.toNat, 64, 0]

def k0_chk1 (i : grid0.Coords) (k0_t1 : Fin (k0_t1_loop i).trips) (arg16 : BitVec 32) : Prop :=
  (∀ a, (k0_off3 arg16) a + S1x1x1x64x512.size a ≤ S1x1x16x128x512.size a) ∧
  (∀ a, (k0_off4 arg16) a + S1x1x1x64x512.size a ≤ S1x1x16x128x512.size a)
theorem k0_off3_inb : ∀ (i : grid0.Coords) (k0_t1 : Fin (k0_t1_loop i).trips) (arg16 : BitVec 32) (k0_hw1 : k0_chk1 i k0_t1 arg16), ∀ a, (k0_off3 arg16) a + S1x1x1x64x512.size a ≤ S1x1x16x128x512.size a := fun i k0_t1 arg16 k0_hw1 => k0_hw1.1
theorem k0_off4_inb : ∀ (i : grid0.Coords) (k0_t1 : Fin (k0_t1_loop i).trips) (arg16 : BitVec 32) (k0_hw1 : k0_chk1 i k0_t1 arg16), ∀ a, (k0_off4 arg16) a + S1x1x1x64x512.size a ≤ S1x1x16x128x512.size a := fun i k0_t1 arg16 k0_hw1 => k0_hw1.2

def k0_mult3 (i : grid0.Coords) (k0_t1 : Fin (k0_t1_loop i).trips) : BitVec 32 :=
  let c4_i32_61 : BitVec 32 := 4#32
  let c0_i32_39 : BitVec 32 := 0#32
  let c1_i32_41 : BitVec 32 := 1#32
  let arg11 : BitVec 32 := Scf.iv c0_i32_39 c1_i32_41 k0_t1
  let v127 : BitVec 32 := Scalar.muli c4_i32_61 arg11
  let c1_i32_107 : BitVec 32 := 1#32
  let v192 : BitVec 32 := Scalar.addi v127 c1_i32_107
  let c512_i32_108 : BitVec 32 := 512#32
  let v193 : BitVec 32 := Scalar.muli v192 c512_i32_108
  v193
def k0_off5 (i : grid0.Coords) (k0_t1 : Fin (k0_t1_loop i).trips) (c1_i32_107 : BitVec 32) : Fin 2 → Nat :=
  let c4_i32_61 : BitVec 32 := 4#32
  let c0_i32_39 : BitVec 32 := 0#32
  let c1_i32_41 : BitVec 32 := 1#32
  let arg11 : BitVec 32 := Scf.iv c0_i32_39 c1_i32_41 k0_t1
  let v127 : BitVec 32 := Scalar.muli c4_i32_61 arg11
  let v192 : BitVec 32 := Scalar.addi v127 c1_i32_107
  let c512_i32_108 : BitVec 32 := 512#32
  let v193 : BitVec 32 := Scalar.muli v192 c512_i32_108
  let v194 : BitVec 32 := v193
  let v195 : Index := Scalar.indexCast v194
  let c0_109 : Index := 0#32
  ![v195.toNat, 0]
def k0_off6 (i : grid0.Coords) (k0_t1 : Fin (k0_t1_loop i).trips) : Fin 5 → Nat :=
  let c0_132 : Index := 0#32
  let c0_133 : Index := 0#32
  let c4_i32_61 : BitVec 32 := 4#32
  let c0_i32_39 : BitVec 32 := 0#32
  let c1_i32_41 : BitVec 32 := 1#32
  let arg11 : BitVec 32 := Scf.iv c0_i32_39 c1_i32_41 k0_t1
  let v127 : BitVec 32 := Scalar.muli c4_i32_61 arg11
  let v231 : Index := Scalar.indexCast v127
  let c0_134 : Index := 0#32
  let c0_135 : Index := 0#32
  ![0, 0, v231.toNat, 0, 0]
def k0_off7 (i : grid0.Coords) (k0_t1 : Fin (k0_t1_loop i).trips) : Fin 5 → Nat :=
  let c0_137 : Index := 0#32
  let c0_138 : Index := 0#32
  let c4_i32_61 : BitVec 32 := 4#32
  let c0_i32_39 : BitVec 32 := 0#32
  let c1_i32_41 : BitVec 32 := 1#32
  let arg11 : BitVec 32 := Scf.iv c0_i32_39 c1_i32_41 k0_t1
  let v127 : BitVec 32 := Scalar.muli c4_i32_61 arg11
  let v236 : Index := Scalar.indexCast v127
  let c64_139 : Index := 64#32
  let c0_140 : Index := 0#32
  ![0, 0, v236.toNat, 64, 0]
def k0_mult4 (i : grid0.Coords) (k0_t1 : Fin (k0_t1_loop i).trips) : BitVec 32 :=
  let c4_i32_60 : BitVec 32 := 4#32
  let c0_i32_39 : BitVec 32 := 0#32
  let c1_i32_41 : BitVec 32 := 1#32
  let arg11 : BitVec 32 := Scf.iv c0_i32_39 c1_i32_41 k0_t1
  let v125 : BitVec 32 := Scalar.muli c4_i32_60 arg11
  let c2_i32 : BitVec 32 := 2#32
  let v126 : BitVec 32 := Scalar.addi v125 c2_i32
  let c512_i32_155 : BitVec 32 := 512#32
  let v258 : BitVec 32 := Scalar.muli v126 c512_i32_155
  v258
def k0_off8 (i : grid0.Coords) (k0_t1 : Fin (k0_t1_loop i).trips) (c1_i32_154 : BitVec 32) : Fin 5 → Nat :=
  let c0_179 : Index := 0#32
  let c0_180 : Index := 0#32
  let c4_i32_61 : BitVec 32 := 4#32
  let c0_i32_39 : BitVec 32 := 0#32
  let c1_i32_41 : BitVec 32 := 1#32
  let arg11 : BitVec 32 := Scf.iv c0_i32_39 c1_i32_41 k0_t1
  let v127 : BitVec 32 := Scalar.muli c4_i32_61 arg11
  let v257 : BitVec 32 := Scalar.addi v127 c1_i32_154
  let v296 : Index := Scalar.indexCast v257
  let c0_181 : Index := 0#32
  let c0_182 : Index := 0#32
  ![0, 0, v296.toNat, 0, 0]
def k0_off9 (i : grid0.Coords) (k0_t1 : Fin (k0_t1_loop i).trips) (c1_i32_154 : BitVec 32) : Fin 5 → Nat :=
  let c0_184 : Index := 0#32
  let c0_185 : Index := 0#32
  let c4_i32_61 : BitVec 32 := 4#32
  let c0_i32_39 : BitVec 32 := 0#32
  let c1_i32_41 : BitVec 32 := 1#32
  let arg11 : BitVec 32 := Scf.iv c0_i32_39 c1_i32_41 k0_t1
  let v127 : BitVec 32 := Scalar.muli c4_i32_61 arg11
  let v257 : BitVec 32 := Scalar.addi v127 c1_i32_154
  let v301 : Index := Scalar.indexCast v257
  let c64_186 : Index := 64#32
  let c0_187 : Index := 0#32
  ![0, 0, v301.toNat, 64, 0]
def k0_mult5 (i : grid0.Coords) (k0_t1 : Fin (k0_t1_loop i).trips) : BitVec 32 :=
  let c4_i32_60 : BitVec 32 := 4#32
  let c0_i32_39 : BitVec 32 := 0#32
  let c1_i32_41 : BitVec 32 := 1#32
  let arg11 : BitVec 32 := Scf.iv c0_i32_39 c1_i32_41 k0_t1
  let v125 : BitVec 32 := Scalar.muli c4_i32_60 arg11
  let c2_i32 : BitVec 32 := 2#32
  let v126 : BitVec 32 := Scalar.addi v125 c2_i32
  let c1_i32_201 : BitVec 32 := 1#32
  let v322 : BitVec 32 := Scalar.addi v126 c1_i32_201
  let c512_i32_202 : BitVec 32 := 512#32
  let v323 : BitVec 32 := Scalar.muli v322 c512_i32_202
  v323
def k0_off10 (i : grid0.Coords) (k0_t1 : Fin (k0_t1_loop i).trips) : Fin 2 → Nat :=
  let c4_i32_60 : BitVec 32 := 4#32
  let c0_i32_39 : BitVec 32 := 0#32
  let c1_i32_41 : BitVec 32 := 1#32
  let arg11 : BitVec 32 := Scf.iv c0_i32_39 c1_i32_41 k0_t1
  let v125 : BitVec 32 := Scalar.muli c4_i32_60 arg11
  let c2_i32 : BitVec 32 := 2#32
  let v126 : BitVec 32 := Scalar.addi v125 c2_i32
  let c1_i32_201 : BitVec 32 := 1#32
  let v322 : BitVec 32 := Scalar.addi v126 c1_i32_201
  let c512_i32_202 : BitVec 32 := 512#32
  let v323 : BitVec 32 := Scalar.muli v322 c512_i32_202
  let v324 : BitVec 32 := v323
  let v325 : Index := Scalar.indexCast v324
  let c0_203 : Index := 0#32
  ![v325.toNat, 0]
@[reducible] def k0_t2_loop (i : grid0.Coords) : Scf.Loop 32 :=
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let v88 : BitVec 32 := Scalar.addi c0_i32_39 v87
  let c1_i32_42 : BitVec 32 := 1#32
  ⟨v91, v88, c1_i32_42⟩
def k0_mult6 (i : grid0.Coords) (k0_t2 : Fin (k0_t2_loop i).trips) : BitVec 32 :=
  let c4_i32_61 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v127 : BitVec 32 := Scalar.muli c4_i32_61 arg11
  let c512_i32_62 : BitVec 32 := 512#32
  let v128 : BitVec 32 := Scalar.muli v127 c512_i32_62
  v128
def k0_off11 (i : grid0.Coords) (k0_t2 : Fin (k0_t2_loop i).trips) : Fin 2 → Nat :=
  let c4_i32_61 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v127 : BitVec 32 := Scalar.muli c4_i32_61 arg11
  let c512_i32_62 : BitVec 32 := 512#32
  let v128 : BitVec 32 := Scalar.muli v127 c512_i32_62
  let v129 : BitVec 32 := v128
  let v130 : Index := Scalar.indexCast v129
  let c0_63 : Index := 0#32
  ![v130.toNat, 0]
def k0_off12 (arg16 : BitVec 32) : Fin 5 → Nat :=
  let c0_86 : Index := 0#32
  let c0_87 : Index := 0#32
  let v166 : Index := Scalar.indexCast arg16
  let c0_88 : Index := 0#32
  let c0_89 : Index := 0#32
  ![0, 0, v166.toNat, 0, 0]

def k0_off13 (arg16 : BitVec 32) : Fin 5 → Nat :=
  let c0_91 : Index := 0#32
  let c0_92 : Index := 0#32
  let v171 : Index := Scalar.indexCast arg16
  let c64 : Index := 64#32
  let c0_93 : Index := 0#32
  ![0, 0, v171.toNat, 64, 0]

def k0_chk2 (i : grid0.Coords) (k0_t2 : Fin (k0_t2_loop i).trips) (arg16 : BitVec 32) : Prop :=
  (∀ a, (k0_off12 arg16) a + S1x1x1x64x512.size a ≤ S1x1x16x128x512.size a) ∧
  (∀ a, (k0_off13 arg16) a + S1x1x1x64x512.size a ≤ S1x1x16x128x512.size a)
theorem k0_off12_inb : ∀ (i : grid0.Coords) (k0_t2 : Fin (k0_t2_loop i).trips) (arg16 : BitVec 32) (k0_hw2 : k0_chk2 i k0_t2 arg16), ∀ a, (k0_off12 arg16) a + S1x1x1x64x512.size a ≤ S1x1x16x128x512.size a := fun i k0_t2 arg16 k0_hw2 => k0_hw2.1
theorem k0_off13_inb : ∀ (i : grid0.Coords) (k0_t2 : Fin (k0_t2_loop i).trips) (arg16 : BitVec 32) (k0_hw2 : k0_chk2 i k0_t2 arg16), ∀ a, (k0_off13 arg16) a + S1x1x1x64x512.size a ≤ S1x1x16x128x512.size a := fun i k0_t2 arg16 k0_hw2 => k0_hw2.2

def k0_mult7 (i : grid0.Coords) (k0_t2 : Fin (k0_t2_loop i).trips) : BitVec 32 :=
  let c4_i32_61 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v127 : BitVec 32 := Scalar.muli c4_i32_61 arg11
  let c1_i32_107 : BitVec 32 := 1#32
  let v192 : BitVec 32 := Scalar.addi v127 c1_i32_107
  let c512_i32_108 : BitVec 32 := 512#32
  let v193 : BitVec 32 := Scalar.muli v192 c512_i32_108
  v193
def k0_off14 (i : grid0.Coords) (k0_t2 : Fin (k0_t2_loop i).trips) (c1_i32_107 : BitVec 32) : Fin 2 → Nat :=
  let c4_i32_61 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v127 : BitVec 32 := Scalar.muli c4_i32_61 arg11
  let v192 : BitVec 32 := Scalar.addi v127 c1_i32_107
  let c512_i32_108 : BitVec 32 := 512#32
  let v193 : BitVec 32 := Scalar.muli v192 c512_i32_108
  let v194 : BitVec 32 := v193
  let v195 : Index := Scalar.indexCast v194
  let c0_109 : Index := 0#32
  ![v195.toNat, 0]
def k0_off15 (i : grid0.Coords) (k0_t2 : Fin (k0_t2_loop i).trips) : Fin 5 → Nat :=
  let c0_132 : Index := 0#32
  let c0_133 : Index := 0#32
  let c4_i32_61 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v127 : BitVec 32 := Scalar.muli c4_i32_61 arg11
  let v231 : Index := Scalar.indexCast v127
  let c0_134 : Index := 0#32
  let c0_135 : Index := 0#32
  ![0, 0, v231.toNat, 0, 0]
def k0_off16 (i : grid0.Coords) (k0_t2 : Fin (k0_t2_loop i).trips) : Fin 5 → Nat :=
  let c0_137 : Index := 0#32
  let c0_138 : Index := 0#32
  let c4_i32_61 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v127 : BitVec 32 := Scalar.muli c4_i32_61 arg11
  let v236 : Index := Scalar.indexCast v127
  let c64_139 : Index := 64#32
  let c0_140 : Index := 0#32
  ![0, 0, v236.toNat, 64, 0]
def k0_mult8 (i : grid0.Coords) (k0_t2 : Fin (k0_t2_loop i).trips) : BitVec 32 :=
  let c4_i32_60 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v125 : BitVec 32 := Scalar.muli c4_i32_60 arg11
  let c2_i32 : BitVec 32 := 2#32
  let v126 : BitVec 32 := Scalar.addi v125 c2_i32
  let c512_i32_155 : BitVec 32 := 512#32
  let v258 : BitVec 32 := Scalar.muli v126 c512_i32_155
  v258
def k0_off17 (i : grid0.Coords) (k0_t2 : Fin (k0_t2_loop i).trips) (c1_i32_154 : BitVec 32) : Fin 5 → Nat :=
  let c0_179 : Index := 0#32
  let c0_180 : Index := 0#32
  let c4_i32_61 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v127 : BitVec 32 := Scalar.muli c4_i32_61 arg11
  let v257 : BitVec 32 := Scalar.addi v127 c1_i32_154
  let v296 : Index := Scalar.indexCast v257
  let c0_181 : Index := 0#32
  let c0_182 : Index := 0#32
  ![0, 0, v296.toNat, 0, 0]
def k0_off18 (i : grid0.Coords) (k0_t2 : Fin (k0_t2_loop i).trips) (c1_i32_154 : BitVec 32) : Fin 5 → Nat :=
  let c0_184 : Index := 0#32
  let c0_185 : Index := 0#32
  let c4_i32_61 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v127 : BitVec 32 := Scalar.muli c4_i32_61 arg11
  let v257 : BitVec 32 := Scalar.addi v127 c1_i32_154
  let v301 : Index := Scalar.indexCast v257
  let c64_186 : Index := 64#32
  let c0_187 : Index := 0#32
  ![0, 0, v301.toNat, 64, 0]
def k0_mult9 (i : grid0.Coords) (k0_t2 : Fin (k0_t2_loop i).trips) : BitVec 32 :=
  let c4_i32_60 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v125 : BitVec 32 := Scalar.muli c4_i32_60 arg11
  let c2_i32 : BitVec 32 := 2#32
  let v126 : BitVec 32 := Scalar.addi v125 c2_i32
  let c1_i32_201 : BitVec 32 := 1#32
  let v322 : BitVec 32 := Scalar.addi v126 c1_i32_201
  let c512_i32_202 : BitVec 32 := 512#32
  let v323 : BitVec 32 := Scalar.muli v322 c512_i32_202
  v323
def k0_off19 (i : grid0.Coords) (k0_t2 : Fin (k0_t2_loop i).trips) : Fin 2 → Nat :=
  let c4_i32_60 : BitVec 32 := 4#32
  let c0_i32_39 : BitVec 32 := 0#32
  let arg2 : BitVec 32 := BitVec.ofNat 32 (i 2).val
  let c0_i32_34 : BitVec 32 := 0#32
  let v71 : BitVec 1 := Scalar.cmpi .sgt arg2 c0_i32_34
  let v72 : BitVec 32 := Scalar.extui v71
  let c0_i32_35 : BitVec 32 := 0#32
  let v73 : BitVec 1 := Scalar.cmpi .slt arg2 c0_i32_35
  let v74 : BitVec 32 := Scalar.extui v73
  let v75 : BitVec 32 := Scalar.subi v72 v74
  let c4_i32 : BitVec 32 := 4#32
  let c0_i32_36 : BitVec 32 := 0#32
  let v76 : BitVec 1 := Scalar.cmpi .sgt c4_i32 c0_i32_36
  let v77 : BitVec 32 := Scalar.extui v76
  let c0_i32_37 : BitVec 32 := 0#32
  let v78 : BitVec 1 := Scalar.cmpi .slt c4_i32 c0_i32_37
  let v79 : BitVec 32 := Scalar.extui v78
  let v80 : BitVec 32 := Scalar.subi v77 v79
  let v81 : BitVec 1 := Scalar.cmpi .ne v75 v80
  let v82 : BitVec 32 := Scalar.remsi arg2 c4_i32
  let c0_i32_38 : BitVec 32 := 0#32
  let v83 : BitVec 1 := Scalar.cmpi .ne v82 c0_i32_38
  let v84 : BitVec 1 := Scalar.andi v81 v83
  let v70 : BitVec 32 := Scalar.divsi arg2 c4_i32
  let c1_i32 : BitVec 32 := 1#32
  let v85 : BitVec 32 := Scalar.subi v70 c1_i32
  let v86 : BitVec 32 := Scalar.select v84 v85 v70
  let v87 : BitVec 32 := Scalar.subi v86 c0_i32_39
  let c1_i32_40 : BitVec 32 := 1#32
  let v89 : BitVec 32 := Scalar.divsi v87 c1_i32_40
  let v90 : BitVec 32 := Scalar.muli v89 c1_i32_40
  let v91 : BitVec 32 := Scalar.addi c0_i32_39 v90
  let c1_i32_42 : BitVec 32 := 1#32
  let arg11 : BitVec 32 := Scf.iv v91 c1_i32_42 k0_t2
  let v125 : BitVec 32 := Scalar.muli c4_i32_60 arg11
  let c2_i32 : BitVec 32 := 2#32
  let v126 : BitVec 32 := Scalar.addi v125 c2_i32
  let c1_i32_201 : BitVec 32 := 1#32
  let v322 : BitVec 32 := Scalar.addi v126 c1_i32_201
  let c512_i32_202 : BitVec 32 := 512#32
  let v323 : BitVec 32 := Scalar.muli v322 c512_i32_202
  let v324 : BitVec 32 := v323
  let v325 : Index := Scalar.indexCast v324
  let c0_203 : Index := 0#32
  ![v325.toNat, 0]
def k0_cond2 (i : grid0.Coords) : BitVec 1 :=
  let arg2 : BitVec 32 := BitVec.ofNat 32 (i 2).val
  let c4_i32_51 : BitVec 32 := 4#32
  let c0_i32_52 : BitVec 32 := 0#32
  let v112 : BitVec 1 := Scalar.cmpi .eq c4_i32_51 c0_i32_52
  let c1_i32_53 : BitVec 32 := 1#32
  let v113 : BitVec 32 := Scalar.select v112 c1_i32_53 c4_i32_51
  let v114 : BitVec 32 := Scalar.remsi arg2 v113
  let c0_i32_55 : BitVec 32 := 0#32
  let v116 : BitVec 1 := Scalar.cmpi .slt v114 c0_i32_55
  let c0_i32_56 : BitVec 32 := 0#32
  let v117 : BitVec 1 := Scalar.cmpi .slt v113 c0_i32_56
  let v118 : BitVec 1 := Scalar.xori v116 v117
  let c0_i32_54 : BitVec 32 := 0#32
  let v115 : BitVec 1 := Scalar.cmpi .ne v114 c0_i32_54
  let v119 : BitVec 1 := Scalar.andi v118 v115
  let v120 : BitVec 32 := Scalar.addi v114 v113
  let v121 : BitVec 32 := Scalar.select v119 v120 v114
  let c0_i32_57 : BitVec 32 := 0#32
  let v122 : BitVec 32 := Scalar.maxsi v121 c0_i32_57
  let c3_i32_58 : BitVec 32 := 3#32
  let v123 : BitVec 32 := Scalar.minsi v122 c3_i32_58
  let c0_i32_59 : BitVec 32 := 0#32
  let v124 : BitVec 1 := Scalar.cmpi .ne v123 c0_i32_59
  v124

def k0_cond3 (i : grid0.Coords) : BitVec 1 :=
  let arg2 : BitVec 32 := BitVec.ofNat 32 (i 2).val
  let c4_i32_51 : BitVec 32 := 4#32
  let c0_i32_52 : BitVec 32 := 0#32
  let v112 : BitVec 1 := Scalar.cmpi .eq c4_i32_51 c0_i32_52
  let c1_i32_53 : BitVec 32 := 1#32
  let v113 : BitVec 32 := Scalar.select v112 c1_i32_53 c4_i32_51
  let v114 : BitVec 32 := Scalar.remsi arg2 v113
  let c0_i32_55 : BitVec 32 := 0#32
  let v116 : BitVec 1 := Scalar.cmpi .slt v114 c0_i32_55
  let c0_i32_56 : BitVec 32 := 0#32
  let v117 : BitVec 1 := Scalar.cmpi .slt v113 c0_i32_56
  let v118 : BitVec 1 := Scalar.xori v116 v117
  let c0_i32_54 : BitVec 32 := 0#32
  let v115 : BitVec 1 := Scalar.cmpi .ne v114 c0_i32_54
  let v119 : BitVec 1 := Scalar.andi v118 v115
  let v120 : BitVec 32 := Scalar.addi v114 v113
  let v121 : BitVec 32 := Scalar.select v119 v120 v114
  let c0_i32_57 : BitVec 32 := 0#32
  let v122 : BitVec 32 := Scalar.maxsi v121 c0_i32_57
  let c3_i32_58 : BitVec 32 := 3#32
  let v123 : BitVec 32 := Scalar.minsi v122 c3_i32_58
  let c1_i32_60 : BitVec 32 := 1#32
  let v125 : BitVec 32 := Scalar.subi v123 c1_i32_60
  let c0_i32_61 : BitVec 32 := 0#32
  let v126 : BitVec 1 := Scalar.cmpi .ne v125 c0_i32_61
  v126

def k0_cond4 (i : grid0.Coords) : BitVec 1 :=
  let arg2 : BitVec 32 := BitVec.ofNat 32 (i 2).val
  let c4_i32_51 : BitVec 32 := 4#32
  let c0_i32_52 : BitVec 32 := 0#32
  let v112 : BitVec 1 := Scalar.cmpi .eq c4_i32_51 c0_i32_52
  let c1_i32_53 : BitVec 32 := 1#32
  let v113 : BitVec 32 := Scalar.select v112 c1_i32_53 c4_i32_51
  let v114 : BitVec 32 := Scalar.remsi arg2 v113
  let c0_i32_55 : BitVec 32 := 0#32
  let v116 : BitVec 1 := Scalar.cmpi .slt v114 c0_i32_55
  let c0_i32_56 : BitVec 32 := 0#32
  let v117 : BitVec 1 := Scalar.cmpi .slt v113 c0_i32_56
  let v118 : BitVec 1 := Scalar.xori v116 v117
  let c0_i32_54 : BitVec 32 := 0#32
  let v115 : BitVec 1 := Scalar.cmpi .ne v114 c0_i32_54
  let v119 : BitVec 1 := Scalar.andi v118 v115
  let v120 : BitVec 32 := Scalar.addi v114 v113
  let v121 : BitVec 32 := Scalar.select v119 v120 v114
  let c0_i32_57 : BitVec 32 := 0#32
  let v122 : BitVec 32 := Scalar.maxsi v121 c0_i32_57
  let c3_i32_58 : BitVec 32 := 3#32
  let v123 : BitVec 32 := Scalar.minsi v122 c3_i32_58
  let c1_i32_60 : BitVec 32 := 1#32
  let v125 : BitVec 32 := Scalar.subi v123 c1_i32_60
  let c1_i32_62 : BitVec 32 := 1#32
  let v127 : BitVec 32 := Scalar.subi v125 c1_i32_62
  let c0_i32_63 : BitVec 32 := 0#32
  let v128 : BitVec 1 := Scalar.cmpi .ne v127 c0_i32_63
  v128

def k0_mult10 (i : grid0.Coords) : BitVec 32 :=
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let c0_i32_64 : BitVec 32 := 0#32
  let v129 : BitVec 32 := Scalar.addi v111 c0_i32_64
  let c512_i32_65 : BitVec 32 := 512#32
  let v130 : BitVec 32 := Scalar.muli v129 c512_i32_65
  v130
def k0_off20 (i : grid0.Coords) : Fin 2 → Nat :=
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let c0_i32_64 : BitVec 32 := 0#32
  let v129 : BitVec 32 := Scalar.addi v111 c0_i32_64
  let c512_i32_65 : BitVec 32 := 512#32
  let v130 : BitVec 32 := Scalar.muli v129 c512_i32_65
  let v131 : BitVec 32 := v130
  let v132 : Index := Scalar.indexCast v131
  let c0_66 : Index := 0#32
  ![v132.toNat, 0]
def k0_off21 (v93_4 : BitVec 32) : Fin 5 → Nat :=
  let c0_89 : Index := 0#32
  let c0_90 : Index := 0#32
  let v168 : Index := Scalar.indexCast v93_4
  let c0_91 : Index := 0#32
  let c0_92 : Index := 0#32
  ![0, 0, v168.toNat, 0, 0]

def k0_off22 (v93_4 : BitVec 32) : Fin 5 → Nat :=
  let c0_94 : Index := 0#32
  let c0_95 : Index := 0#32
  let v173 : Index := Scalar.indexCast v93_4
  let c64 : Index := 64#32
  let c0_96 : Index := 0#32
  ![0, 0, v173.toNat, 64, 0]
def k0_mult11 (i : grid0.Coords) : BitVec 32 :=
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let c1_i32_111 : BitVec 32 := 1#32
  let v195 : BitVec 32 := Scalar.addi v111 c1_i32_111
  let c512_i32_112 : BitVec 32 := 512#32
  let v196 : BitVec 32 := Scalar.muli v195 c512_i32_112
  v196
def k0_off23 (i : grid0.Coords) (c1_i32_111 : BitVec 32) : Fin 2 → Nat :=
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let v195 : BitVec 32 := Scalar.addi v111 c1_i32_111
  let c512_i32_112 : BitVec 32 := 512#32
  let v196 : BitVec 32 := Scalar.muli v195 c512_i32_112
  let v197 : BitVec 32 := v196
  let v198 : Index := Scalar.indexCast v197
  let c0_113 : Index := 0#32
  ![v198.toNat, 0]
def k0_off24 (i : grid0.Coords) (c0_i32_110 : BitVec 32) : Fin 5 → Nat :=
  let c0_136 : Index := 0#32
  let c0_137 : Index := 0#32
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let v194 : BitVec 32 := Scalar.addi v111 c0_i32_110
  let v234 : Index := Scalar.indexCast v194
  let c0_138 : Index := 0#32
  let c0_139 : Index := 0#32
  ![0, 0, v234.toNat, 0, 0]
def k0_off25 (i : grid0.Coords) (c0_i32_110 : BitVec 32) : Fin 5 → Nat :=
  let c0_141 : Index := 0#32
  let c0_142 : Index := 0#32
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let v194 : BitVec 32 := Scalar.addi v111 c0_i32_110
  let v239 : Index := Scalar.indexCast v194
  let c64_143 : Index := 64#32
  let c0_144 : Index := 0#32
  ![0, 0, v239.toNat, 64, 0]
def k0_mult12 (i : grid0.Coords) : BitVec 32 :=
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let c2_i32 : BitVec 32 := 2#32
  let v261 : BitVec 32 := Scalar.addi v111 c2_i32
  let c512_i32_159 : BitVec 32 := 512#32
  let v262 : BitVec 32 := Scalar.muli v261 c512_i32_159
  v262
def k0_mult13 (i : grid0.Coords) : BitVec 32 :=
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let c0_i32_64 : BitVec 32 := 0#32
  let v129 : BitVec 32 := Scalar.addi v111 c0_i32_64
  let c512_i32_65 : BitVec 32 := 512#32
  let v130 : BitVec 32 := Scalar.muli v129 c512_i32_65
  v130
def k0_off26 (i : grid0.Coords) (c0_i32_64 : BitVec 32) : Fin 2 → Nat :=
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let v129 : BitVec 32 := Scalar.addi v111 c0_i32_64
  let c512_i32_65 : BitVec 32 := 512#32
  let v130 : BitVec 32 := Scalar.muli v129 c512_i32_65
  let v131 : BitVec 32 := v130
  let v132 : Index := Scalar.indexCast v131
  let c0_66 : Index := 0#32
  ![v132.toNat, 0]
def k0_off27 (v93_4 : BitVec 32) : Fin 5 → Nat :=
  let c0_89 : Index := 0#32
  let c0_90 : Index := 0#32
  let v168 : Index := Scalar.indexCast v93_4
  let c0_91 : Index := 0#32
  let c0_92 : Index := 0#32
  ![0, 0, v168.toNat, 0, 0]
def k0_off28 (v93_4 : BitVec 32) : Fin 5 → Nat :=
  let c0_94 : Index := 0#32
  let c0_95 : Index := 0#32
  let v173 : Index := Scalar.indexCast v93_4
  let c64 : Index := 64#32
  let c0_96 : Index := 0#32
  ![0, 0, v173.toNat, 64, 0]
def k0_mult14 (i : grid0.Coords) : BitVec 32 :=
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let c1_i32_111 : BitVec 32 := 1#32
  let v195 : BitVec 32 := Scalar.addi v111 c1_i32_111
  let c512_i32_112 : BitVec 32 := 512#32
  let v196 : BitVec 32 := Scalar.muli v195 c512_i32_112
  v196
def k0_off29 (i : grid0.Coords) (c0_i32_110 : BitVec 32) : Fin 5 → Nat :=
  let c0_136 : Index := 0#32
  let c0_137 : Index := 0#32
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let v194 : BitVec 32 := Scalar.addi v111 c0_i32_110
  let v234 : Index := Scalar.indexCast v194
  let c0_138 : Index := 0#32
  let c0_139 : Index := 0#32
  ![0, 0, v234.toNat, 0, 0]
def k0_off30 (i : grid0.Coords) (c0_i32_110 : BitVec 32) : Fin 5 → Nat :=
  let c0_141 : Index := 0#32
  let c0_142 : Index := 0#32
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let v194 : BitVec 32 := Scalar.addi v111 c0_i32_110
  let v239 : Index := Scalar.indexCast v194
  let c64_143 : Index := 64#32
  let c0_144 : Index := 0#32
  ![0, 0, v239.toNat, 64, 0]
def k0_mult15 (i : grid0.Coords) : BitVec 32 :=
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let c0_i32_62 : BitVec 32 := 0#32
  let v127 : BitVec 32 := Scalar.addi v111 c0_i32_62
  let c512_i32_63 : BitVec 32 := 512#32
  let v128 : BitVec 32 := Scalar.muli v127 c512_i32_63
  v128
def k0_off31 (i : grid0.Coords) : Fin 2 → Nat :=
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let c0_i32_62 : BitVec 32 := 0#32
  let v127 : BitVec 32 := Scalar.addi v111 c0_i32_62
  let c512_i32_63 : BitVec 32 := 512#32
  let v128 : BitVec 32 := Scalar.muli v127 c512_i32_63
  let v129 : BitVec 32 := v128
  let v130 : Index := Scalar.indexCast v129
  let c0_64 : Index := 0#32
  ![v130.toNat, 0]
def k0_off32 (v93_4 : BitVec 32) : Fin 5 → Nat :=
  let c0_87 : Index := 0#32
  let c0_88 : Index := 0#32
  let v166 : Index := Scalar.indexCast v93_4
  let c0_89 : Index := 0#32
  let c0_90 : Index := 0#32
  ![0, 0, v166.toNat, 0, 0]
def k0_off33 (v93_4 : BitVec 32) : Fin 5 → Nat :=
  let c0_92 : Index := 0#32
  let c0_93 : Index := 0#32
  let v171 : Index := Scalar.indexCast v93_4
  let c64 : Index := 64#32
  let c0_94 : Index := 0#32
  ![0, 0, v171.toNat, 64, 0]
def k0_off34 (i : grid0.Coords) : Fin 5 → Nat :=
  let c0_118 : Index := 0#32
  let c0_119 : Index := 0#32
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let c0_i32_108 : BitVec 32 := 0#32
  let v192 : BitVec 32 := Scalar.addi v111 c0_i32_108
  let v212 : Index := Scalar.indexCast v192
  let c0_120 : Index := 0#32
  let c0_121 : Index := 0#32
  ![0, 0, v212.toNat, 0, 0]
def k0_off35 (i : grid0.Coords) : Fin 5 → Nat :=
  let c0_123 : Index := 0#32
  let c0_124 : Index := 0#32
  let c4_i32_50 : BitVec 32 := 4#32
  let arg2 : BitVec 32 := BitVec.ofNat 32 (i 2).val
  let c0_i32_44 : BitVec 32 := 0#32
  let v95 : BitVec 1 := Scalar.cmpi .sgt arg2 c0_i32_44
  let v96 : BitVec 32 := Scalar.extui v95
  let c0_i32_45 : BitVec 32 := 0#32
  let v97 : BitVec 1 := Scalar.cmpi .slt arg2 c0_i32_45
  let v98 : BitVec 32 := Scalar.extui v97
  let v99 : BitVec 32 := Scalar.subi v96 v98
  let c4_i32_43 : BitVec 32 := 4#32
  let c0_i32_46 : BitVec 32 := 0#32
  let v100 : BitVec 1 := Scalar.cmpi .sgt c4_i32_43 c0_i32_46
  let v101 : BitVec 32 := Scalar.extui v100
  let c0_i32_47 : BitVec 32 := 0#32
  let v102 : BitVec 1 := Scalar.cmpi .slt c4_i32_43 c0_i32_47
  let v103 : BitVec 32 := Scalar.extui v102
  let v104 : BitVec 32 := Scalar.subi v101 v103
  let v105 : BitVec 1 := Scalar.cmpi .ne v99 v104
  let v106 : BitVec 32 := Scalar.remsi arg2 c4_i32_43
  let c0_i32_48 : BitVec 32 := 0#32
  let v107 : BitVec 1 := Scalar.cmpi .ne v106 c0_i32_48
  let v108 : BitVec 1 := Scalar.andi v105 v107
  let v94 : BitVec 32 := Scalar.divsi arg2 c4_i32_43
  let c1_i32_49 : BitVec 32 := 1#32
  let v109 : BitVec 32 := Scalar.subi v94 c1_i32_49
  let v110 : BitVec 32 := Scalar.select v108 v109 v94
  let v111 : BitVec 32 := Scalar.muli c4_i32_50 v110
  let c0_i32_108 : BitVec 32 := 0#32
  let v192 : BitVec 32 := Scalar.addi v111 c0_i32_108
  let v217 : Index := Scalar.indexCast v192
  let c64_125 : Index := 64#32
  let c0_126 : Index := 0#32
  ![0, 0, v217.toNat, 64, 0]
def k0_off36 (v93_4 : BitVec 32) : Fin 5 → Nat :=
  let c0_69 : Index := 0#32
  let c0_70 : Index := 0#32
  let v144 : Index := Scalar.indexCast v93_4
  let c0_71 : Index := 0#32
  let c0_72 : Index := 0#32
  ![0, 0, v144.toNat, 0, 0]
def k0_off37 (v93_4 : BitVec 32) : Fin 5 → Nat :=
  let c0_74 : Index := 0#32
  let c0_75 : Index := 0#32
  let v149 : Index := Scalar.indexCast v93_4
  let c64 : Index := 64#32
  let c0_76 : Index := 0#32
  ![0, 0, v149.toNat, 64, 0]

def k0_chk3 (i : grid0.Coords) (v93_4 : BitVec 32) : Prop :=
  (∀ (k0_h2 : k0_cond2 i = 1#1), ∀ (k0_h3 : k0_cond3 i = 1#1), ∀ (k0_h4 : k0_cond4 i = 1#1), ∀ a, (k0_off21 v93_4) a + S1x1x1x64x512.size a ≤ S1x1x16x128x512.size a) ∧
  (∀ (k0_h2 : k0_cond2 i = 1#1), ∀ (k0_h3 : k0_cond3 i = 1#1), ∀ (k0_h4 : k0_cond4 i = 1#1), ∀ a, (k0_off22 v93_4) a + S1x1x1x64x512.size a ≤ S1x1x16x128x512.size a) ∧
  (∀ (k0_h2 : k0_cond2 i = 1#1), ∀ (k0_h3 : k0_cond3 i = 1#1), ∀ (k0_h4 : ¬(k0_cond4 i = 1#1)), ∀ a, (k0_off27 v93_4) a + S1x1x1x64x512.size a ≤ S1x1x16x128x512.size a) ∧
  (∀ (k0_h2 : k0_cond2 i = 1#1), ∀ (k0_h3 : k0_cond3 i = 1#1), ∀ (k0_h4 : ¬(k0_cond4 i = 1#1)), ∀ a, (k0_off28 v93_4) a + S1x1x1x64x512.size a ≤ S1x1x16x128x512.size a) ∧
  (∀ (k0_h2 : k0_cond2 i = 1#1), ∀ (k0_h3 : ¬(k0_cond3 i = 1#1)), ∀ a, (k0_off32 v93_4) a + S1x1x1x64x512.size a ≤ S1x1x16x128x512.size a) ∧
  (∀ (k0_h2 : k0_cond2 i = 1#1), ∀ (k0_h3 : ¬(k0_cond3 i = 1#1)), ∀ a, (k0_off33 v93_4) a + S1x1x1x64x512.size a ≤ S1x1x16x128x512.size a) ∧
  (∀ (k0_h2 : ¬(k0_cond2 i = 1#1)), ∀ a, (k0_off36 v93_4) a + S1x1x1x64x512.size a ≤ S1x1x16x128x512.size a) ∧
  (∀ (k0_h2 : ¬(k0_cond2 i = 1#1)), ∀ a, (k0_off37 v93_4) a + S1x1x1x64x512.size a ≤ S1x1x16x128x512.size a)
theorem k0_off21_inb : ∀ (i : grid0.Coords) (v93_4 : BitVec 32) (k0_hw3 : k0_chk3 i v93_4), ∀ (k0_h2 : k0_cond2 i = 1#1), ∀ (k0_h3 : k0_cond3 i = 1#1), ∀ (k0_h4 : k0_cond4 i = 1#1), ∀ a, (k0_off21 v93_4) a + S1x1x1x64x512.size a ≤ S1x1x16x128x512.size a := fun i v93_4 k0_hw3 k0_h2 k0_h3 k0_h4 => k0_hw3.1 k0_h2 k0_h3 k0_h4
theorem k0_off22_inb : ∀ (i : grid0.Coords) (v93_4 : BitVec 32) (k0_hw3 : k0_chk3 i v93_4), ∀ (k0_h2 : k0_cond2 i = 1#1), ∀ (k0_h3 : k0_cond3 i = 1#1), ∀ (k0_h4 : k0_cond4 i = 1#1), ∀ a, (k0_off22 v93_4) a + S1x1x1x64x512.size a ≤ S1x1x16x128x512.size a := fun i v93_4 k0_hw3 k0_h2 k0_h3 k0_h4 => k0_hw3.2.1 k0_h2 k0_h3 k0_h4
theorem k0_off27_inb : ∀ (i : grid0.Coords) (v93_4 : BitVec 32) (k0_hw3 : k0_chk3 i v93_4), ∀ (k0_h2 : k0_cond2 i = 1#1), ∀ (k0_h3 : k0_cond3 i = 1#1), ∀ (k0_h4 : ¬(k0_cond4 i = 1#1)), ∀ a, (k0_off27 v93_4) a + S1x1x1x64x512.size a ≤ S1x1x16x128x512.size a := fun i v93_4 k0_hw3 k0_h2 k0_h3 k0_h4 => k0_hw3.2.2.1 k0_h2 k0_h3 k0_h4
theorem k0_off28_inb : ∀ (i : grid0.Coords) (v93_4 : BitVec 32) (k0_hw3 : k0_chk3 i v93_4), ∀ (k0_h2 : k0_cond2 i = 1#1), ∀ (k0_h3 : k0_cond3 i = 1#1), ∀ (k0_h4 : ¬(k0_cond4 i = 1#1)), ∀ a, (k0_off28 v93_4) a + S1x1x1x64x512.size a ≤ S1x1x16x128x512.size a := fun i v93_4 k0_hw3 k0_h2 k0_h3 k0_h4 => k0_hw3.2.2.2.1 k0_h2 k0_h3 k0_h4
theorem k0_off32_inb : ∀ (i : grid0.Coords) (v93_4 : BitVec 32) (k0_hw3 : k0_chk3 i v93_4), ∀ (k0_h2 : k0_cond2 i = 1#1), ∀ (k0_h3 : ¬(k0_cond3 i = 1#1)), ∀ a, (k0_off32 v93_4) a + S1x1x1x64x512.size a ≤ S1x1x16x128x512.size a := fun i v93_4 k0_hw3 k0_h2 k0_h3 => k0_hw3.2.2.2.2.1 k0_h2 k0_h3
theorem k0_off33_inb : ∀ (i : grid0.Coords) (v93_4 : BitVec 32) (k0_hw3 : k0_chk3 i v93_4), ∀ (k0_h2 : k0_cond2 i = 1#1), ∀ (k0_h3 : ¬(k0_cond3 i = 1#1)), ∀ a, (k0_off33 v93_4) a + S1x1x1x64x512.size a ≤ S1x1x16x128x512.size a := fun i v93_4 k0_hw3 k0_h2 k0_h3 => k0_hw3.2.2.2.2.2.1 k0_h2 k0_h3
theorem k0_off36_inb : ∀ (i : grid0.Coords) (v93_4 : BitVec 32) (k0_hw3 : k0_chk3 i v93_4), ∀ (k0_h2 : ¬(k0_cond2 i = 1#1)), ∀ a, (k0_off36 v93_4) a + S1x1x1x64x512.size a ≤ S1x1x16x128x512.size a := fun i v93_4 k0_hw3 k0_h2 => k0_hw3.2.2.2.2.2.2.1 k0_h2
theorem k0_off37_inb : ∀ (i : grid0.Coords) (v93_4 : BitVec 32) (k0_hw3 : k0_chk3 i v93_4), ∀ (k0_h2 : ¬(k0_cond2 i = 1#1)), ∀ a, (k0_off37 v93_4) a + S1x1x1x64x512.size a ≤ S1x1x16x128x512.size a := fun i v93_4 k0_hw3 k0_h2 => k0_hw3.2.2.2.2.2.2.2 k0_h2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S16384x3584 : Shape := ⟨2, ![16384, 3584]⟩
abbrev S16384x1024 : Shape := ⟨2, ![16384, 1024]⟩
abbrev S2x8x16x128x512 : Shape := ⟨5, ![2, 8, 16, 128, 512]⟩
abbrev S2x8192x16x64 : Shape := ⟨4, ![2, 8192, 16, 64]⟩
abbrev S2x8x16x2x64x512 : Shape := ⟨6, ![2, 8, 16, 2, 64, 512]⟩
abbrev S2x16x512x8x2x64 : Shape := ⟨6, ![2, 16, 512, 8, 2, 64]⟩
abbrev S2x8192x8x128 : Shape := ⟨4, ![2, 8192, 8, 128]⟩
abbrev S2x8192x8x6 : Shape := ⟨4, ![2, 8192, 8, 6]⟩
abbrev S2x8192x16x3 : Shape := ⟨4, ![2, 8192, 16, 3]⟩
abbrev S_ : Shape := ⟨0, ![]⟩
abbrev S2x8192x16 : Shape := ⟨3, ![2, 8192, 16]⟩
abbrev S2x16x8192 : Shape := ⟨3, ![2, 16, 8192]⟩
abbrev S2x16x8192x8192 : Shape := ⟨4, ![2, 16, 8192, 8192]⟩
abbrev S2x16x1x8192 : Shape := ⟨4, ![2, 16, 1, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x16x8192x1 : Shape := ⟨4, ![2, 16, 8192, 1]⟩
abbrev S2x16x64x8192 : Shape := ⟨4, ![2, 16, 64, 8192]⟩

abbrev nBuf : Space → Nat
  | .hbm => 53
  | .vmem => 0
  | .smem => 0
  | _ => 0

abbrev bufTy : (tb : Table) → Fin (tcTables nBuf tb) → BufTy
  | .hbm, ⟨0, _⟩ => ⟨S16384x3584, .bf16⟩
  | .hbm, ⟨1, _⟩ => ⟨S16384x1024, .bf16⟩
  | .hbm, ⟨2, _⟩ => ⟨S2x8x16x128x512, .bf16⟩
  | .hbm, ⟨3, _⟩ => ⟨S16384x1024, .bf16⟩
  | .hbm, ⟨4, _⟩ => ⟨S16384x1024, .f32⟩
  | .hbm, ⟨5, _⟩ => ⟨S2x8192x16x64, .f32⟩
  | .hbm, ⟨6, _⟩ => ⟨S16384x1024, .bf16⟩
  | .hbm, ⟨7, _⟩ => ⟨S16384x1024, .f32⟩
  | .hbm, ⟨8, _⟩ => ⟨S2x8192x16x64, .f32⟩
  | .hbm, ⟨9, _⟩ => ⟨S2x8x16x128x512, .f32⟩
  | .hbm, ⟨10, _⟩ => ⟨S2x8x16x2x64x512, .f32⟩
  | .hbm, ⟨11, _⟩ => ⟨S2x16x512x8x2x64, .f32⟩
  | .hbm, ⟨12, _⟩ => ⟨S2x8192x16x64, .f32⟩
  | .hbm, ⟨13, _⟩ => ⟨S16384x1024, .f32⟩
  | .hbm, ⟨14, _⟩ => ⟨S2x8192x8x128, .f32⟩
  | .hbm, ⟨15, _⟩ => ⟨S2x8192x8x6, .f32⟩
  | .hbm, ⟨16, _⟩ => ⟨S2x8192x16x3, .f32⟩
  | .hbm, ⟨17, _⟩ => ⟨S_, .f32⟩
  | .hbm, ⟨18, _⟩ => ⟨S2x8192x16, .f32⟩
  | .hbm, ⟨19, _⟩ => ⟨S2x16x8192, .f32⟩
  | .hbm, ⟨20, _⟩ => ⟨S2x16x8192x8192, .f32⟩
  | .hbm, ⟨21, _⟩ => ⟨S2x16x1x8192, .f32⟩
  | .hbm, ⟨22, _⟩ => ⟨S2x16x8192x8192, .f32⟩
  | .hbm, ⟨23, _⟩ => ⟨S2x16x8192x8192, .f32⟩
  | .hbm, ⟨24, _⟩ => ⟨S8192, .i32⟩
  | .hbm, ⟨25, _⟩ => ⟨S8192x1, .i32⟩
  | .hbm, ⟨26, _⟩ => ⟨S8192, .i32⟩
  | .hbm, ⟨27, _⟩ => ⟨S1x8192, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S_, .f32⟩
  | .hbm, ⟨32, _⟩ => ⟨S_, .f32⟩
  | .hbm, ⟨33, _⟩ => ⟨S2x16x8192x8192, .i1⟩
  | .hbm, ⟨34, _⟩ => ⟨S2x16x8192x8192, .f32⟩
  | .hbm, ⟨35, _⟩ => ⟨S2x16x8192x8192, .f32⟩
  | .hbm, ⟨36, _⟩ => ⟨S_, .f32⟩
  | .hbm, ⟨37, _⟩ => ⟨S2x16x8192x8192, .f32⟩
  | .hbm, ⟨38, _⟩ => ⟨S_, .f32⟩
  | .hbm, ⟨39, _⟩ => ⟨S2x16x8192, .f32⟩
  | .hbm, ⟨40, _⟩ => ⟨S2x16x8192x1, .f32⟩
  | .hbm, ⟨41, _⟩ => ⟨S2x16x8192x8192, .f32⟩
  | .hbm, ⟨42, _⟩ => ⟨S2x16x8192x8192, .f32⟩
  | .hbm, ⟨43, _⟩ => ⟨S2x16x8192x8192, .f32⟩
  | .hbm, ⟨44, _⟩ => ⟨S_, .f32⟩
  | .hbm, ⟨45, _⟩ => ⟨S2x16x8192, .f32⟩
  | .hbm, ⟨46, _⟩ => ⟨S2x16x8192x1, .f32⟩
  | .hbm, ⟨47, _⟩ => ⟨S2x16x8192x8192, .f32⟩
  | .hbm, ⟨48, _⟩ => ⟨S2x16x8192x8192, .f32⟩
  | .hbm, ⟨49, _⟩ => ⟨S2x16x64x8192, .f32⟩
  | .hbm, ⟨50, _⟩ => ⟨S2x8192x16x64, .f32⟩
  | .hbm, ⟨51, _⟩ => ⟨S16384x1024, .f32⟩
  | .hbm, ⟨52, _⟩ => ⟨S16384x1024, .bf16⟩
  | _, _ => ⟨S16384x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Kernel2.lean ====
abbrev S16384x2048 : Shape := ⟨2, ![16384, 2048]⟩
abbrev S2x6x2048 : Shape := ⟨3, ![2, 6, 2048]⟩
abbrev S1x2048 : Shape := ⟨2, ![1, 2048]⟩
abbrev S2048x3584 : Shape := ⟨2, ![2048, 3584]⟩
abbrev S2048x128 : Shape := ⟨2, ![2048, 128]⟩
abbrev S1x3584 : Shape := ⟨2, ![1, 3584]⟩
abbrev S2048x1024 : Shape := ⟨2, ![2048, 1024]⟩
abbrev S16384x3584 : Shape := ⟨2, ![16384, 3584]⟩
abbrev S16384x128 : Shape := ⟨2, ![16384, 128]⟩
abbrev S2x8x16x128x512 : Shape := ⟨5, ![2, 8, 16, 128, 512]⟩
abbrev S512x2048 : Shape := ⟨2, ![512, 2048]⟩
abbrev S1x6x2048 : Shape := ⟨3, ![1, 6, 2048]⟩
abbrev S2048x1792 : Shape := ⟨2, ![2048, 1792]⟩
abbrev S1x1792 : Shape := ⟨2, ![1, 1792]⟩
abbrev S512x1792 : Shape := ⟨2, ![512, 1792]⟩
abbrev S512x128 : Shape := ⟨2, ![512, 128]⟩
abbrev S1x8x1x128x512 : Shape := ⟨5, ![1, 8, 1, 128, 512]⟩
abbrev S512 : Shape := ⟨1, ![512]⟩
abbrev S512x1 : Shape := ⟨2, ![512, 1]⟩
abbrev S1x1x2048 : Shape := ⟨3, ![1, 1, 2048]⟩
abbrev S1024x512 : Shape := ⟨2, ![1024, 512]⟩
abbrev S8x128x512 : Shape := ⟨3, ![8, 128, 512]⟩

abbrev nBuf : Space → Nat
  | .hbm => 10
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S1x2048, .f32⟩
  | .hbm, ⟨3, _⟩ => ⟨S2048x3584, .bf16⟩
  | .hbm, ⟨4, _⟩ => ⟨S2048x128, .bf16⟩
  | .hbm, ⟨5, _⟩ => ⟨S1x3584, .f32⟩
  | .hbm, ⟨6, _⟩ => ⟨S2048x1024, .bf16⟩
  | .hbm, ⟨7, _⟩ => ⟨S16384x3584, .bf16⟩
  | .hbm, ⟨8, _⟩ => ⟨S16384x128, .f32⟩
  | .hbm, ⟨9, _⟩ => ⟨S2x8x16x128x512, .bf16⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1792, .bf16⟩
  | .local _ .vmem, ⟨6, _⟩ => ⟨S2048x1792, .bf16⟩
  | .local _ .vmem, ⟨7, _⟩ => ⟨S2048x128, .bf16⟩
  | .local _ .vmem, ⟨8, _⟩ => ⟨S1x1792, .f32⟩
  | .local _ .vmem, ⟨9, _⟩ => ⟨S1x1792, .f32⟩
  | .local _ .vmem, ⟨10, _⟩ => ⟨S2048x1024, .bf16⟩
  | .local _ .vmem, ⟨11, _⟩ => ⟨S512x1792, .bf16⟩
  | .local _ .vmem, ⟨12, _⟩ => ⟨S512x1792, .bf16⟩
  | .local _ .vmem, ⟨13, _⟩ => ⟨S512x128, .f32⟩
  | .local _ .vmem, ⟨14, _⟩ => ⟨S512x128, .f32⟩
  | .local _ .vmem, ⟨15, _⟩ => ⟨S1x8x1x128x512, .bf16⟩
  | .local _ .vmem, ⟨16, _⟩ => ⟨S1x8x1x128x512, .bf16⟩
  | .local _ .vmem, ⟨17, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 3], ![false, false]⟩

def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c2_i32_2 : BitVec 32 := 2#32
  let v6 : BitVec 1 := Scalar.cmpi .eq arg1 c2_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1792 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16384x2048 : Shape := ⟨2, ![16384, 2048]⟩
abbrev S2x6x2048 : Shape := ⟨3, ![2, 6, 2048]⟩
abbrev S1x2048 : Shape := ⟨2, ![1, 2048]⟩
abbrev S2048x3584 : Shape := ⟨2, ![2048, 3584]⟩
abbrev S2048x128 : Shape := ⟨2, ![2048, 128]⟩
abbrev S1x3584 : Shape := ⟨2, ![1, 3584]⟩
abbrev S2048x1024 : Shape := ⟨2, ![2048, 1024]⟩
abbrev S2x8192x2048 : Shape := ⟨3, ![2, 8192, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2x1x2048 : Shape := ⟨3, ![2, 1, 2048]⟩
abbrev S2x8192x3584 : Shape := ⟨3, ![2, 8192, 3584]⟩
abbrev S1x1x3584 : Shape := ⟨3, ![1, 1, 3584]⟩
abbrev S2x8192x128 : Shape := ⟨3, ![2, 8192, 128]⟩
abbrev S2x8192x1024 : Shape := ⟨3, ![2, 8192, 1024]⟩
abbrev S2x16x512x8x128 : Shape := ⟨5, ![2, 16, 512, 8, 128]⟩
abbrev S2x8x16x128x512 : Shape := ⟨5, ![2, 8, 16, 128, 512]⟩
abbrev S16384x3584 : Shape := ⟨2, ![16384, 3584]⟩
abbrev S16384x128 : Shape := ⟨2, ![16384, 128]⟩

abbrev nBuf : Space → Nat
  | .hbm => 48
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x6x2048, .f32⟩
  | .hbm, ⟨2, _⟩ => ⟨S1x2048, .f32⟩
  | .hbm, ⟨3, _⟩ => ⟨S2048x3584, .bf16⟩
  | .hbm, ⟨4, _⟩ => ⟨S2048x128, .bf16⟩
  | .hbm, ⟨5, _⟩ => ⟨S1x3584, .f32⟩
  | .hbm, ⟨6, _⟩ => ⟨S2048x1024, .bf16⟩
  | .hbm, ⟨7, _⟩ => ⟨S2x8192x2048, .f32⟩
  | .hbm, ⟨8, _⟩ => ⟨S2x8192x2048, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x2048, .f32⟩
  | .hbm, ⟨20, _⟩ => ⟨S2x8192x2048, .f32⟩
  | .hbm, ⟨21, _⟩ => ⟨S1x1x2048, .f32⟩
  | .hbm, ⟨22, _⟩ => ⟨S2x8192x2048, .f32⟩
  | .hbm, ⟨23, _⟩ => ⟨S2x8192x2048, .f32⟩
  | .hbm, ⟨24, _⟩ => ⟨S2x1x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x8192x2048, .f32⟩
  | .hbm, ⟨29, _⟩ => ⟨S2x8192x2048, .f32⟩
  | .hbm, ⟨30, _⟩ => ⟨S2x1x2048, .f32⟩
  | .hbm, ⟨31, _⟩ => ⟨S2x8192x2048, .f32⟩
  | .hbm, ⟨32, _⟩ => ⟨S2x8192x2048, .f32⟩
  | .hbm, ⟨33, _⟩ => ⟨S2048x3584, .f32⟩
  | .hbm, ⟨34, _⟩ => ⟨S2x8192x3584, .f32⟩
  | .hbm, ⟨35, _⟩ => ⟨S1x1x3584, .f32⟩
  | .hbm, ⟨36, _⟩ => ⟨S2x8192x3584, .f32⟩
  | .hbm, ⟨37, _⟩ => ⟨S2x8192x3584, .f32⟩
  | .hbm, ⟨38, _⟩ => ⟨S2048x128, .f32⟩
  | .hbm, ⟨39, _⟩ => ⟨S2x8192x128, .f32⟩
  | .hbm, ⟨40, _⟩ => ⟨S2048x1024, .f32⟩
  | .hbm, ⟨41, _⟩ => ⟨S2x8192x1024, .f32⟩
  | .hbm, ⟨42, _⟩ => ⟨S2x16x512x8x128, .f32⟩
  | .hbm, ⟨43, _⟩ => ⟨S2x8x16x128x512, .f32⟩
  | .hbm, ⟨44, _⟩ => ⟨S16384x3584, .f32⟩
  | .hbm, ⟨45, _⟩ => ⟨S16384x3584, .bf16⟩
  | .hbm, ⟨46, _⟩ => ⟨S16384x128, .f32⟩
  | .hbm, ⟨47, _⟩ => ⟨S2x8x16x128x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Model.lean ====
/-
  The attention call's recurrence as pure functions, at any float instance: the key blocks in the order they are taken
  (the query block's own first, under the causal mask, then the earlier ones from the first), per block and head the
  scores, their column maxima, the running maximum and the running accumulator (64 rows of weighted values, then rows of
  the weights' sum).
-/
module

public import proofs.«01_k».proof.Proof.Gen.KernelIdeal.Skeleton

@[expose] public section

set_option maxRecDepth 16384

noncomputable section

namespace Cert.Fox

open Cert.KernelIdeal Cert.KernelIdeal.Gen
open Idealize.ShloMosaic Idealize.ShloMosaic.TcCoe Idealize.SL.Sem

variable {F : FTy → Type} [FloatOps F]

/-- What one grid point of the call reads: its queries (two heads side by side), every key block with its bias columns,
    every value block of each head, the causal mask, and the query block's index. -/
structure Inp (F : FTy → Type) where
  q : FVec F S512x128 .bf16
  k : Nat → FVec F S512x128 .bf16
  aug : Nat → FVec F S512x128 .bf16
  v : Fin 2 → Nat → FVec F S1x1x1x64x512 .bf16
  mask : FVec F S512x512 .f32
  qi : Nat

namespace Inp
variable (I : Inp F)

/-- The key block taken `n`-th. -/
def blk : Nat → Nat
  | 0 => I.qi
  | n + 1 => n

/-- The queries of a head, transposed and widened by the rows that pick its bias columns. -/
def qa (hh : Fin 2) : FVec F S256x512 .bf16 :=
  match hh with
  | 0 => k0_pay256 I.q
  | 1 => k0_pay261 (k0_pay257 I.q) k0_pay258 (k0_pay259 (F := F)) (k0_pay260 (F := F))

/-- The scores of the `n`-th key block, keys down and queries across. -/
def T (hh : Fin 2) : Nat → FVec F S1x1x512x512 .f32
  | 0 => k0_pay267 (I.qa hh) (I.k I.qi) (I.aug I.qi) I.mask
  | n + 1 => k0_pay13 (I.qa hh) (I.k n) (I.aug n)

/-- The largest score of each query in the `n`-th key block. -/
def B (hh : Fin 2) : Nat → FVec F S1x512 .f32
  | 0 => k0_pay268 (I.qa hh) (I.k I.qi) (I.aug I.qi) I.mask
  | n + 1 => k0_pay14 (I.qa hh) (I.k n) (I.aug n)

/-- The running maximum before the `n`-th key block. -/
def M (hh : Fin 2) : Nat → FVec F S1x512 .f32
  | 0 => k0_pay263 (F := F)
  | n + 1 => k0_pay17 (M hh n) (I.B hh n)

/-- The zero accumulator of one head. -/
def acc0 : FVec F S1x80x512 .f32 := fun _ => Scalar.ofBits .f32 0x00000000#32

/-- The accumulator before the `n`-th key block. -/
def A (hh : Fin 2) : Nat → FVec F S1x80x512 .f32
  | 0 => acc0
  | n + 1 => k0_pay23 (k0_pay18 (I.M hh n) (I.B hh n)) (k0_pay19 (I.M hh n) (I.B hh n) (I.T hh n)) (I.v hh (I.blk n)) (A hh n)

theorem blk_succ (n : Nat) : I.blk (n + 1) = n := rfl
theorem T_succ (hh : Fin 2) (n : Nat) : I.T hh (n + 1) = k0_pay13 (I.qa hh) (I.k n) (I.aug n) := rfl
theorem B_succ (hh : Fin 2) (n : Nat) : I.B hh (n + 1) = k0_pay14 (I.qa hh) (I.k n) (I.aug n) := rfl
theorem M_succ (hh : Fin 2) (n : Nat) : I.M hh (n + 1) = k0_pay17 (I.M hh n) (I.B hh n) := rfl
theorem A_succ (hh : Fin 2) (n : Nat) : I.A hh (n + 1) = k0_pay23 (k0_pay18 (I.M hh n) (I.B hh n)) (k0_pay19 (I.M hh n) (I.B hh n) (I.T hh n)) (I.v hh (I.blk n)) (I.A hh n) := rfl

end Inp

end Cert.Fox

end
-- ==== Proof.Pay.lean ====
/-
  The body names the same few functions again for each key block: each name is one of the recurrence's.
-/
module

public import proofs.«01_k».proof.Proof.Model

@[expose] public section

set_option maxRecDepth 16384

noncomputable section

namespace Cert.Fox

open Cert.KernelIdeal Cert.KernelIdeal.Gen
open Idealize.ShloMosaic Idealize.ShloMosaic.TcCoe Idealize.SL.Sem

variable {F : FTy → Type} [FloatOps F]

theorem p15 (q : FVec F S256x512 .bf16) (k a : FVec F S512x128 .bf16) : k0_pay15 q k a = k0_pay13 q k a := rfl
theorem p29 (q : FVec F S256x512 .bf16) (k a : FVec F S512x128 .bf16) : k0_pay29 q k a = k0_pay13 q k a := rfl
theorem p31 (q : FVec F S256x512 .bf16) (k a : FVec F S512x128 .bf16) : k0_pay31 q k a = k0_pay13 q k a := rfl
theorem p44 (q : FVec F S256x512 .bf16) (k a : FVec F S512x128 .bf16) : k0_pay44 q k a = k0_pay13 q k a := rfl
theorem p46 (q : FVec F S256x512 .bf16) (k a : FVec F S512x128 .bf16) : k0_pay46 q k a = k0_pay13 q k a := rfl
theorem p60 (q : FVec F S256x512 .bf16) (k a : FVec F S512x128 .bf16) : k0_pay60 q k a = k0_pay13 q k a := rfl
theorem p62 (q : FVec F S256x512 .bf16) (k a : FVec F S512x128 .bf16) : k0_pay62 q k a = k0_pay13 q k a := rfl
theorem p135 (q : FVec F S256x512 .bf16) (k a : FVec F S512x128 .bf16) : k0_pay135 q k a = k0_pay13 q k a := rfl
theorem p137 (q : FVec F S256x512 .bf16) (k a : FVec F S512x128 .bf16) : k0_pay137 q k a = k0_pay13 q k a := rfl
theorem p151 (q : FVec F S256x512 .bf16) (k a : FVec F S512x128 .bf16) : k0_pay151 q k a = k0_pay13 q k a := rfl
theorem p153 (q : FVec F S256x512 .bf16) (k a : FVec F S512x128 .bf16) : k0_pay153 q k a = k0_pay13 q k a := rfl
theorem p167 (q : FVec F S256x512 .bf16) (k a : FVec F S512x128 .bf16) : k0_pay167 q k a = k0_pay13 q k a := rfl
theorem p169 (q : FVec F S256x512 .bf16) (k a : FVec F S512x128 .bf16) : k0_pay169 q k a = k0_pay13 q k a := rfl
theorem p190 (q : FVec F S256x512 .bf16) (k a : FVec F S512x128 .bf16) : k0_pay190 q k a = k0_pay13 q k a := rfl
theorem p192 (q : FVec F S256x512 .bf16) (k a : FVec F S512x128 .bf16) : k0_pay192 q k a = k0_pay13 q k a := rfl
theorem p206 (q : FVec F S256x512 .bf16) (k a : FVec F S512x128 .bf16) : k0_pay206 q k a = k0_pay13 q k a := rfl
theorem p208 (q : FVec F S256x512 .bf16) (k a : FVec F S512x128 .bf16) : k0_pay208 q k a = k0_pay13 q k a := rfl
theorem p229 (q : FVec F S256x512 .bf16) (k a : FVec F S512x128 .bf16) : k0_pay229 q k a = k0_pay13 q k a := rfl
theorem p231 (q : FVec F S256x512 .bf16) (k a : FVec F S512x128 .bf16) : k0_pay231 q k a = k0_pay13 q k a := rfl
theorem p16 (q : FVec F S256x512 .bf16) (k a : FVec F S512x128 .bf16) : k0_pay16 q k a = k0_pay14 q k a := rfl
theorem p30 (q : FVec F S256x512 .bf16) (k a : FVec F S512x128 .bf16) : k0_pay30 q k a = k0_pay14 q k a := rfl
theorem p32 (q : FVec F S256x512 .bf16) (k a : FVec F S512x128 .bf16) : k0_pay32 q k a = k0_pay14 q k a := rfl
theorem p45 (q : FVec F S256x512 .bf16) (k a : FVec F S512x128 .bf16) : k0_pay45 q k a = k0_pay14 q k a := rfl
theorem p47 (q : FVec F S256x512 .bf16) (k a : FVec F S512x128 .bf16) : k0_pay47 q k a = k0_pay14 q k a := rfl
theorem p61 (q : FVec F S256x512 .bf16) (k a : FVec F S512x128 .bf16) : k0_pay61 q k a = k0_pay14 q k a := rfl
theorem p63 (q : FVec F S256x512 .bf16) (k a : FVec F S512x128 .bf16) : k0_pay63 q k a = k0_pay14 q k a := rfl
theorem p136 (q : FVec F S256x512 .bf16) (k a : FVec F S512x128 .bf16) : k0_pay136 q k a = k0_pay14 q k a := rfl
theorem p138 (q : FVec F S256x512 .bf16) (k a : FVec F S512x128 .bf16) : k0_pay138 q k a = k0_pay14 q k a := rfl
theorem p152 (q : FVec F S256x512 .bf16) (k a : FVec F S512x128 .bf16) : k0_pay152 q k a = k0_pay14 q k a := rfl
theorem p154 (q : FVec F S256x512 .bf16) (k a : FVec F S512x128 .bf16) : k0_pay154 q k a = k0_pay14 q k a := rfl
theorem p168 (q : FVec F S256x512 .bf16) (k a : FVec F S512x128 .bf16) : k0_pay168 q k a = k0_pay14 q k a := rfl
theorem p170 (q : FVec F S256x512 .bf16) (k a : FVec F S512x128 .bf16) : k0_pay170 q k a = k0_pay14 q k a := rfl
theorem p191 (q : FVec F S256x512 .bf16) (k a : FVec F S512x128 .bf16) : k0_pay191 q k a = k0_pay14 q k a := rfl
theorem p193 (q : FVec F S256x512 .bf16) (k a : FVec F S512x128 .bf16) : k0_pay193 q k a = k0_pay14 q k a := rfl
theorem p207 (q : FVec F S256x512 .bf16) (k a : FVec F S512x128 .bf16) : k0_pay207 q k a = k0_pay14 q k a := rfl
theorem p209 (q : FVec F S256x512 .bf16) (k a : FVec F S512x128 .bf16) : k0_pay209 q k a = k0_pay14 q k a := rfl
theorem p230 (q : FVec F S256x512 .bf16) (k a : FVec F S512x128 .bf16) : k0_pay230 q k a = k0_pay14 q k a := rfl
theorem p232 (q : FVec F S256x512 .bf16) (k a : FVec F S512x128 .bf16) : k0_pay232 q k a = k0_pay14 q k a := rfl
theorem p20 (m b : FVec F S1x512 .f32) : k0_pay20 m b = k0_pay17 m b := rfl
theorem p139 (m b : FVec F S1x512 .f32) : k0_pay139 m b = k0_pay17 m b := rfl
theorem p142 (m b : FVec F S1x512 .f32) : k0_pay142 m b = k0_pay17 m b := rfl
theorem p194 (m b : FVec F S1x512 .f32) : k0_pay194 m b = k0_pay17 m b := rfl
theorem p197 (m b : FVec F S1x512 .f32) : k0_pay197 m b = k0_pay17 m b := rfl
theorem p233 (m b : FVec F S1x512 .f32) : k0_pay233 m b = k0_pay17 m b := rfl
theorem p236 (m b : FVec F S1x512 .f32) : k0_pay236 m b = k0_pay17 m b := rfl
theorem p33 (m b : FVec F S1x512 .f32) : k0_pay33 b m = k0_pay17 m b := rfl
theorem p36 (m b : FVec F S1x512 .f32) : k0_pay36 b m = k0_pay17 m b := rfl
theorem p48 (m b : FVec F S1x512 .f32) : k0_pay48 b m = k0_pay17 m b := rfl
theorem p51 (m b : FVec F S1x512 .f32) : k0_pay51 b m = k0_pay17 m b := rfl
theorem p64 (m b : FVec F S1x512 .f32) : k0_pay64 b m = k0_pay17 m b := rfl
theorem p67 (m b : FVec F S1x512 .f32) : k0_pay67 b m = k0_pay17 m b := rfl
theorem p155 (m b : FVec F S1x512 .f32) : k0_pay155 b m = k0_pay17 m b := rfl
theorem p158 (m b : FVec F S1x512 .f32) : k0_pay158 b m = k0_pay17 m b := rfl
theorem p171 (m b : FVec F S1x512 .f32) : k0_pay171 b m = k0_pay17 m b := rfl
theorem p174 (m b : FVec F S1x512 .f32) : k0_pay174 b m = k0_pay17 m b := rfl
theorem p210 (m b : FVec F S1x512 .f32) : k0_pay210 b m = k0_pay17 m b := rfl
theorem p213 (m b : FVec F S1x512 .f32) : k0_pay213 b m = k0_pay17 m b := rfl
theorem p21 (m b : FVec F S1x512 .f32) : k0_pay21 m b = k0_pay18 m b := rfl
theorem p140 (m b : FVec F S1x512 .f32) : k0_pay140 m b = k0_pay18 m b := rfl
theorem p143 (m b : FVec F S1x512 .f32) : k0_pay143 m b = k0_pay18 m b := rfl
theorem p195 (m b : FVec F S1x512 .f32) : k0_pay195 m b = k0_pay18 m b := rfl
theorem p198 (m b : FVec F S1x512 .f32) : k0_pay198 m b = k0_pay18 m b := rfl
theorem p234 (m b : FVec F S1x512 .f32) : k0_pay234 m b = k0_pay18 m b := rfl
theorem p237 (m b : FVec F S1x512 .f32) : k0_pay237 m b = k0_pay18 m b := rfl
theorem p34 (m b : FVec F S1x512 .f32) : k0_pay34 b m = k0_pay18 m b := rfl
theorem p37 (m b : FVec F S1x512 .f32) : k0_pay37 b m = k0_pay18 m b := rfl
theorem p49 (m b : FVec F S1x512 .f32) : k0_pay49 b m = k0_pay18 m b := rfl
theorem p52 (m b : FVec F S1x512 .f32) : k0_pay52 b m = k0_pay18 m b := rfl
theorem p65 (m b : FVec F S1x512 .f32) : k0_pay65 b m = k0_pay18 m b := rfl
theorem p68 (m b : FVec F S1x512 .f32) : k0_pay68 b m = k0_pay18 m b := rfl
theorem p156 (m b : FVec F S1x512 .f32) : k0_pay156 b m = k0_pay18 m b := rfl
theorem p159 (m b : FVec F S1x512 .f32) : k0_pay159 b m = k0_pay18 m b := rfl
theorem p172 (m b : FVec F S1x512 .f32) : k0_pay172 b m = k0_pay18 m b := rfl
theorem p175 (m b : FVec F S1x512 .f32) : k0_pay175 b m = k0_pay18 m b := rfl
theorem p211 (m b : FVec F S1x512 .f32) : k0_pay211 b m = k0_pay18 m b := rfl
theorem p214 (m b : FVec F S1x512 .f32) : k0_pay214 b m = k0_pay18 m b := rfl
theorem p141 (m b : FVec F S1x512 .f32) (T : FVec F S1x1x512x512 .f32) : k0_pay141 m b T = k0_pay19 m b T := rfl
theorem p196 (m b : FVec F S1x512 .f32) (T : FVec F S1x1x512x512 .f32) : k0_pay196 m b T = k0_pay19 m b T := rfl
theorem p235 (m b : FVec F S1x512 .f32) (T : FVec F S1x1x512x512 .f32) : k0_pay235 m b T = k0_pay19 m b T := rfl
theorem p35 (m b : FVec F S1x512 .f32) (T : FVec F S1x1x512x512 .f32) : k0_pay35 b m T = k0_pay19 m b T := rfl
theorem p50 (m b : FVec F S1x512 .f32) (T : FVec F S1x1x512x512 .f32) : k0_pay50 b m T = k0_pay19 m b T := rfl
theorem p66 (m b : FVec F S1x512 .f32) (T : FVec F S1x1x512x512 .f32) : k0_pay66 b m T = k0_pay19 m b T := rfl
theorem p69 (m b : FVec F S1x512 .f32) (T : FVec F S1x1x512x512 .f32) : k0_pay69 b m T = k0_pay19 m b T := rfl
theorem p157 (m b : FVec F S1x512 .f32) (T : FVec F S1x1x512x512 .f32) : k0_pay157 b m T = k0_pay19 m b T := rfl
theorem p173 (m b : FVec F S1x512 .f32) (T : FVec F S1x1x512x512 .f32) : k0_pay173 b m T = k0_pay19 m b T := rfl
theorem p176 (m b : FVec F S1x512 .f32) (T : FVec F S1x1x512x512 .f32) : k0_pay176 b m T = k0_pay19 m b T := rfl
theorem p212 (m b : FVec F S1x512 .f32) (T : FVec F S1x1x512x512 .f32) : k0_pay212 b m T = k0_pay19 m b T := rfl
theorem p39 (α : FVec F S1x512 .f32) (p : FVec F S512x512 .bf16) (v : FVec F S1x1x1x64x512 .bf16) (A : FVec F S1x80x512 .f32) : k0_pay39 α p v A = k0_pay23 α p v A := rfl
theorem p55 (α : FVec F S1x512 .f32) (p : FVec F S512x512 .bf16) (v : FVec F S1x1x1x64x512 .bf16) (A : FVec F S1x80x512 .f32) : k0_pay55 α p v A = k0_pay23 α p v A := rfl
theorem p146 (α : FVec F S1x512 .f32) (p : FVec F S512x512 .bf16) (v : FVec F S1x1x1x64x512 .bf16) (A : FVec F S1x80x512 .f32) : k0_pay146 α p v A = k0_pay23 α p v A := rfl
theorem p162 (α : FVec F S1x512 .f32) (p : FVec F S512x512 .bf16) (v : FVec F S1x1x1x64x512 .bf16) (A : FVec F S1x80x512 .f32) : k0_pay162 α p v A = k0_pay23 α p v A := rfl
theorem p178 (α : FVec F S1x512 .f32) (p : FVec F S512x512 .bf16) (v : FVec F S1x1x1x64x512 .bf16) (A : FVec F S1x80x512 .f32) : k0_pay178 α p v A = k0_pay23 α p v A := rfl
theorem p179 (α : FVec F S1x512 .f32) (p : FVec F S512x512 .bf16) (v : FVec F S1x1x1x64x512 .bf16) (A : FVec F S1x80x512 .f32) : k0_pay179 α p v A = k0_pay23 α p v A := rfl
theorem p201 (α : FVec F S1x512 .f32) (p : FVec F S512x512 .bf16) (v : FVec F S1x1x1x64x512 .bf16) (A : FVec F S1x80x512 .f32) : k0_pay201 α p v A = k0_pay23 α p v A := rfl
theorem p217 (α : FVec F S1x512 .f32) (p : FVec F S512x512 .bf16) (v : FVec F S1x1x1x64x512 .bf16) (A : FVec F S1x80x512 .f32) : k0_pay217 α p v A = k0_pay23 α p v A := rfl
theorem p240 (α : FVec F S1x512 .f32) (p : FVec F S512x512 .bf16) (v : FVec F S1x1x1x64x512 .bf16) (A : FVec F S1x80x512 .f32) : k0_pay240 α p v A = k0_pay23 α p v A := rfl
theorem p272 (α : FVec F S1x512 .f32) (p : FVec F S512x512 .bf16) (v : FVec F S1x1x1x64x512 .bf16) (A : FVec F S1x80x512 .f32) : k0_pay272 α p k0_pay70 v A = k0_pay23 α p v A := rfl
theorem p273 (α : FVec F S1x512 .f32) (p : FVec F S512x512 .bf16) (v : FVec F S1x1x1x64x512 .bf16) (A : FVec F S1x80x512 .f32) : k0_pay273 α p k0_pay70 v A = k0_pay23 α p v A := rfl
theorem p25 (m b : FVec F S1x512 .f32) (T : FVec F S1x1x512x512 .f32) (v : FVec F S1x1x1x64x512 .bf16) (A : FVec F S1x80x512 .f32) : k0_pay25 (k0_pay24 (k0_pay17 m b) (k0_pay18 m b) T v A) = k0_pay23 (k0_pay18 m b) (k0_pay19 m b T) v A := rfl
theorem p40 (m b : FVec F S1x512 .f32) (T : FVec F S1x1x512x512 .f32) (v : FVec F S1x1x1x64x512 .bf16) (A : FVec F S1x80x512 .f32) : k0_pay40 (k0_pay17 m b) (k0_pay18 m b) T v A = k0_pay23 (k0_pay18 m b) (k0_pay19 m b T) v A := rfl
theorem p56 (m b : FVec F S1x512 .f32) (T : FVec F S1x1x512x512 .f32) (v : FVec F S1x1x1x64x512 .bf16) (A : FVec F S1x80x512 .f32) : k0_pay56 (k0_pay18 m b) (k0_pay53 b m T) v A = k0_pay23 (k0_pay18 m b) (k0_pay19 m b T) v A := rfl
theorem p147 (m b : FVec F S1x512 .f32) (T : FVec F S1x1x512x512 .f32) (v : FVec F S1x1x1x64x512 .bf16) (A : FVec F S1x80x512 .f32) : k0_pay147 (k0_pay17 m b) (k0_pay18 m b) (k0_pay144 T) v A = k0_pay23 (k0_pay18 m b) (k0_pay19 m b T) v A := rfl
theorem p163 (m b : FVec F S1x512 .f32) (T : FVec F S1x1x512x512 .f32) (v : FVec F S1x1x1x64x512 .bf16) (A : FVec F S1x80x512 .f32) : k0_pay163 (k0_pay18 m b) (k0_pay160 b m T) v A = k0_pay23 (k0_pay18 m b) (k0_pay19 m b T) v A := rfl
theorem p186 (m b : FVec F S1x512 .f32) (T : FVec F S1x1x512x512 .f32) (v : FVec F S1x1x1x64x512 .bf16) (A : FVec F S1x80x512 .f32) : k0_pay186 (k0_pay180 b m) (k0_pay181 b m) T v A = k0_pay23 (k0_pay18 m b) (k0_pay19 m b T) v A := rfl
theorem p1 (m b : FVec F S1x512 .f32) (T : FVec F S1x1x512x512 .f32) (v : FVec F S1x1x1x64x512 .bf16) (A : FVec F S1x80x512 .f32) : k0_pay1 (k0_pay183 b m) (k0_pay185 b m T v) A = k0_pay23 (k0_pay18 m b) (k0_pay19 m b T) v A := rfl
theorem p202 (m b : FVec F S1x512 .f32) (T : FVec F S1x1x512x512 .f32) (v : FVec F S1x1x1x64x512 .bf16) (A : FVec F S1x80x512 .f32) : k0_pay202 (k0_pay17 m b) (k0_pay18 m b) (k0_pay199 T) v A = k0_pay23 (k0_pay18 m b) (k0_pay19 m b T) v A := rfl
theorem p218 (m b : FVec F S1x512 .f32) (T : FVec F S1x1x512x512 .f32) (v : FVec F S1x1x1x64x512 .bf16) (A : FVec F S1x80x512 .f32) : k0_pay218 (k0_pay18 m b) (k0_pay215 b m T) v A = k0_pay23 (k0_pay18 m b) (k0_pay19 m b T) v A := rfl
theorem p225 (m b : FVec F S1x512 .f32) (T : FVec F S1x1x512x512 .f32) (v : FVec F S1x1x1x64x512 .bf16) (A : FVec F S1x80x512 .f32) : k0_pay225 (k0_pay219 b m) (k0_pay220 b m) T v A = k0_pay23 (k0_pay18 m b) (k0_pay19 m b T) v A := rfl
theorem p3 (m b : FVec F S1x512 .f32) (T : FVec F S1x1x512x512 .f32) (v : FVec F S1x1x1x64x512 .bf16) (A : FVec F S1x80x512 .f32) : k0_pay3 (k0_pay222 b m) (k0_pay224 b m T v) A = k0_pay23 (k0_pay18 m b) (k0_pay19 m b T) v A := rfl
theorem p241 (m b : FVec F S1x512 .f32) (T : FVec F S1x1x512x512 .f32) (v : FVec F S1x1x1x64x512 .bf16) (A : FVec F S1x80x512 .f32) : k0_pay241 (k0_pay17 m b) (k0_pay18 m b) (k0_pay238 T) v A = k0_pay23 (k0_pay18 m b) (k0_pay19 m b T) v A := rfl
theorem p248 (m b : FVec F S1x512 .f32) (T : FVec F S1x1x512x512 .f32) (v : FVec F S1x1x1x64x512 .bf16) (A : FVec F S1x80x512 .f32) : k0_pay248 (k0_pay242 b m) (k0_pay243 b m) T v A = k0_pay23 (k0_pay18 m b) (k0_pay19 m b T) v A := rfl
theorem p5 (m b : FVec F S1x512 .f32) (T : FVec F S1x1x512x512 .f32) (v : FVec F S1x1x1x64x512 .bf16) (A : FVec F S1x80x512 .f32) : k0_pay5 (k0_pay245 b m) (k0_pay247 b m T v) A = k0_pay23 (k0_pay18 m b) (k0_pay19 m b T) v A := rfl
theorem p7 (m b : FVec F S1x512 .f32) (T : FVec F S1x1x512x512 .f32) (v : FVec F S1x1x1x64x512 .bf16) (A : FVec F S1x80x512 .f32) : k0_pay7 (k0_pay253 m b T v A) = k0_pay23 (k0_pay18 m b) (k0_pay19 m b T) v A := rfl
theorem p8 (m b : FVec F S1x512 .f32) (T : FVec F S1x1x512x512 .f32) (v : FVec F S1x1x1x64x512 .bf16) (A : FVec F S1x80x512 .f32) : k0_pay8 (k0_pay250 m b) (k0_pay252 m b T v) A = k0_pay23 (k0_pay18 m b) (k0_pay19 m b T) v A := rfl
theorem p2 (t0 t1 : FVec F S1x64x512 .f32) (d0 d1 : FVec F S1x1x512 .f32) : k0_pay2 t0 d0 t1 d1 = k0_pay9 t0 d0 t1 d1 := rfl
theorem p4 (t0 t1 : FVec F S1x64x512 .f32) (d0 d1 : FVec F S1x1x512 .f32) : k0_pay4 t0 d0 t1 d1 = k0_pay9 t0 d0 t1 d1 := rfl
theorem p6 (t0 t1 : FVec F S1x64x512 .f32) (d0 d1 : FVec F S1x1x512 .f32) : k0_pay6 t0 d0 t1 d1 = k0_pay9 t0 d0 t1 d1 := rfl
theorem p264 : k0_pay264 (F := F) = k0_pay263 := rfl
theorem p270 (q : FVec F S512x128 .bf16) (k a : FVec F S512x128 .bf16) (w : FVec F S512x512 .f32) : k0_pay270 (k0_pay257 q) k0_pay258 (k0_pay259 (F := F)) (k0_pay260 (F := F)) k a w = k0_pay267 (k0_pay261 (k0_pay257 q) k0_pay258 (k0_pay259 (F := F)) (k0_pay260 (F := F))) k a w := rfl
theorem p271 (q : FVec F S512x128 .bf16) (k a : FVec F S512x128 .bf16) (w : FVec F S512x512 .f32) : k0_pay271 (k0_pay257 q) k0_pay258 (k0_pay259 (F := F)) (k0_pay260 (F := F)) k a w = k0_pay268 (k0_pay261 (k0_pay257 q) k0_pay258 (k0_pay259 (F := F)) (k0_pay260 (F := F))) k a w := rfl

end Cert.Fox

end
-- ==== Proof.Offsets.lean ====
/-
  The offsets of the attention call's loads in closed form, and the run of its counted loop: query block `qi` of the
  grid makes `qi / 4` trips of four key blocks, and the branch taken after the loop is the one for `qi % 4`.
-/
module

public import proofs.«01_k».proof.Proof.Gen.KernelIdeal.Skeleton
public import proofs.«01_k».proof.Proof.Gen.KernelIdeal.Loops
public import Idealize.ShloMosaic.Lib.Affine
public import Idealize.ShloMosaic.Lib.LoopRemainder

@[expose] public section

set_option maxRecDepth 16384

noncomputable section

namespace Cert.Fox

open Cert.KernelIdeal Cert.KernelIdeal.Gen
open Idealize.ShloMosaic Idealize.ShloMosaic.TcCoe Idealize.SL.Sem

/-- The counted loop makes a quarter of the query block's index many trips. -/
theorem trips_t1 : ∀ i : grid0.Coords, (k0_t1_loop i).trips = (i 2).val / 4 := by decide +kernel

theorem off2_eq : ∀ (i : grid0.Coords) (k : Fin (k0_t1_loop i).trips), k0_off2 i k = ![512 * (4 * k.val), 0] := by
  decide +kernel
theorem off5_1_eq : ∀ (i : grid0.Coords) (k : Fin (k0_t1_loop i).trips), k0_off5 i k 1#32 = ![512 * (4 * k.val + 1), 0] := by
  decide +kernel
theorem off5_2_eq : ∀ (i : grid0.Coords) (k : Fin (k0_t1_loop i).trips), k0_off5 i k 2#32 = ![512 * (4 * k.val + 2), 0] := by
  decide +kernel
theorem off10_eq : ∀ (i : grid0.Coords) (k : Fin (k0_t1_loop i).trips), k0_off10 i k = ![512 * (4 * k.val + 3), 0] := by
  decide +kernel
theorem off6_eq : ∀ (i : grid0.Coords) (k : Fin (k0_t1_loop i).trips), k0_off6 i k = ![0, 0, 4 * k.val, 0, 0] := by
  decide +kernel
theorem off7_eq : ∀ (i : grid0.Coords) (k : Fin (k0_t1_loop i).trips), k0_off7 i k = ![0, 0, 4 * k.val, 64, 0] := by
  decide +kernel
theorem off8_1_eq : ∀ (i : grid0.Coords) (k : Fin (k0_t1_loop i).trips), k0_off8 i k 1#32 = ![0, 0, 4 * k.val + 1, 0, 0] := by
  decide +kernel
theorem off9_1_eq : ∀ (i : grid0.Coords) (k : Fin (k0_t1_loop i).trips), k0_off9 i k 1#32 = ![0, 0, 4 * k.val + 1, 64, 0] := by
  decide +kernel
theorem off8_2_eq : ∀ (i : grid0.Coords) (k : Fin (k0_t1_loop i).trips), k0_off8 i k 2#32 = ![0, 0, 4 * k.val + 2, 0, 0] := by
  decide +kernel
theorem off9_2_eq : ∀ (i : grid0.Coords) (k : Fin (k0_t1_loop i).trips), k0_off9 i k 2#32 = ![0, 0, 4 * k.val + 2, 64, 0] := by
  decide +kernel

/-- The branch conditions of the switch. -/
theorem cond2_iff : ∀ i : grid0.Coords, k0_cond2 i = 1#1 ↔ 1 ≤ (i 2).val % 4 := by decide +kernel
theorem cond3_iff : ∀ i : grid0.Coords, k0_cond2 i = 1#1 → (k0_cond3 i = 1#1 ↔ 2 ≤ (i 2).val % 4) := by decide +kernel
theorem cond4_iff : ∀ i : grid0.Coords, k0_cond2 i = 1#1 → k0_cond3 i = 1#1 → (k0_cond4 i = 1#1 ↔ 3 ≤ (i 2).val % 4) := by decide +kernel

/-! The tail's offsets: `b = 4 * (qi / 4)` the loop's key blocks, then `qi % 4` more. -/

theorem off20_eq : ∀ i : grid0.Coords, k0_cond2 i = 1#1 → k0_cond3 i = 1#1 → k0_cond4 i = 1#1 → k0_off20 i = ![512 * (4 * ((i 2).val / 4)), 0] := by
  decide +kernel
theorem off23_1_eq : ∀ i : grid0.Coords, k0_cond2 i = 1#1 → k0_cond3 i = 1#1 → k0_cond4 i = 1#1 → k0_off23 i 1#32 = ![512 * (4 * ((i 2).val / 4) + 1), 0] := by
  decide +kernel
theorem off23_2_eq : ∀ i : grid0.Coords, k0_cond2 i = 1#1 → k0_cond3 i = 1#1 → k0_cond4 i = 1#1 → k0_off23 i 2#32 = ![512 * (4 * ((i 2).val / 4) + 2), 0] := by
  decide +kernel
theorem off24_0_eq : ∀ i : grid0.Coords, k0_cond2 i = 1#1 → k0_cond3 i = 1#1 → k0_cond4 i = 1#1 → k0_off24 i 0#32 = ![0, 0, 4 * ((i 2).val / 4), 0, 0] := by
  decide +kernel
theorem off24_1_eq : ∀ i : grid0.Coords, k0_cond2 i = 1#1 → k0_cond3 i = 1#1 → k0_cond4 i = 1#1 → k0_off24 i 1#32 = ![0, 0, 4 * ((i 2).val / 4) + 1, 0, 0] := by
  decide +kernel
theorem off24_2_eq : ∀ i : grid0.Coords, k0_cond2 i = 1#1 → k0_cond3 i = 1#1 → k0_cond4 i = 1#1 → k0_off24 i 2#32 = ![0, 0, 4 * ((i 2).val / 4) + 2, 0, 0] := by
  decide +kernel
theorem off25_0_eq : ∀ i : grid0.Coords, k0_cond2 i = 1#1 → k0_cond3 i = 1#1 → k0_cond4 i = 1#1 → k0_off25 i 0#32 = ![0, 0, 4 * ((i 2).val / 4), 64, 0] := by
  decide +kernel
theorem off25_1_eq : ∀ i : grid0.Coords, k0_cond2 i = 1#1 → k0_cond3 i = 1#1 → k0_cond4 i = 1#1 → k0_off25 i 1#32 = ![0, 0, 4 * ((i 2).val / 4) + 1, 64, 0] := by
  decide +kernel
theorem off25_2_eq : ∀ i : grid0.Coords, k0_cond2 i = 1#1 → k0_cond3 i = 1#1 → k0_cond4 i = 1#1 → k0_off25 i 2#32 = ![0, 0, 4 * ((i 2).val / 4) + 2, 64, 0] := by
  decide +kernel
theorem off26_0_eq : ∀ i : grid0.Coords, k0_cond2 i = 1#1 → k0_cond3 i = 1#1 → ¬ k0_cond4 i = 1#1 → k0_off26 i 0#32 = ![512 * (4 * ((i 2).val / 4)), 0] := by
  decide +kernel
theorem off26_1_eq : ∀ i : grid0.Coords, k0_cond2 i = 1#1 → k0_cond3 i = 1#1 → ¬ k0_cond4 i = 1#1 → k0_off26 i 1#32 = ![512 * (4 * ((i 2).val / 4) + 1), 0] := by
  decide +kernel
theorem off29_0_eq : ∀ i : grid0.Coords, k0_cond2 i = 1#1 → k0_cond3 i = 1#1 → ¬ k0_cond4 i = 1#1 → k0_off29 i 0#32 = ![0, 0, 4 * ((i 2).val / 4), 0, 0] := by
  decide +kernel
theorem off29_1_eq : ∀ i : grid0.Coords, k0_cond2 i = 1#1 → k0_cond3 i = 1#1 → ¬ k0_cond4 i = 1#1 → k0_off29 i 1#32 = ![0, 0, 4 * ((i 2).val / 4) + 1, 0, 0] := by
  decide +kernel
theorem off30_0_eq : ∀ i : grid0.Coords, k0_cond2 i = 1#1 → k0_cond3 i = 1#1 → ¬ k0_cond4 i = 1#1 → k0_off30 i 0#32 = ![0, 0, 4 * ((i 2).val / 4), 64, 0] := by
  decide +kernel
theorem off30_1_eq : ∀ i : grid0.Coords, k0_cond2 i = 1#1 → k0_cond3 i = 1#1 → ¬ k0_cond4 i = 1#1 → k0_off30 i 1#32 = ![0, 0, 4 * ((i 2).val / 4) + 1, 64, 0] := by
  decide +kernel
theorem off31_eq : ∀ i : grid0.Coords, k0_cond2 i = 1#1 → ¬ k0_cond3 i = 1#1 → k0_off31 i = ![512 * (4 * ((i 2).val / 4)), 0] := by
  decide +kernel
theorem off34_eq : ∀ i : grid0.Coords, k0_cond2 i = 1#1 → ¬ k0_cond3 i = 1#1 → k0_off34 i = ![0, 0, 4 * ((i 2).val / 4), 0, 0] := by
  decide +kernel
theorem off35_eq : ∀ i : grid0.Coords, k0_cond2 i = 1#1 → ¬ k0_cond3 i = 1#1 → k0_off35 i = ![0, 0, 4 * ((i 2).val / 4), 64, 0] := by
  decide +kernel
theorem off21_eq : ∀ n : Fin 16, k0_off21 (BitVec.ofNat 32 n.val) = ![0, 0, n.val, 0, 0] := by decide +kernel
theorem off22_eq : ∀ n : Fin 16, k0_off22 (BitVec.ofNat 32 n.val) = ![0, 0, n.val, 64, 0] := by decide +kernel
theorem off27_eq : ∀ n : Fin 16, k0_off27 (BitVec.ofNat 32 n.val) = ![0, 0, n.val, 0, 0] := by decide +kernel
theorem off28_eq : ∀ n : Fin 16, k0_off28 (BitVec.ofNat 32 n.val) = ![0, 0, n.val, 64, 0] := by decide +kernel
theorem off32_eq : ∀ n : Fin 16, k0_off32 (BitVec.ofNat 32 n.val) = ![0, 0, n.val, 0, 0] := by decide +kernel
theorem off33_eq : ∀ n : Fin 16, k0_off33 (BitVec.ofNat 32 n.val) = ![0, 0, n.val, 64, 0] := by decide +kernel
theorem off36_eq : ∀ n : Fin 16, k0_off36 (BitVec.ofNat 32 n.val) = ![0, 0, n.val, 0, 0] := by decide +kernel
theorem off37_eq : ∀ n : Fin 16, k0_off37 (BitVec.ofNat 32 n.val) = ![0, 0, n.val, 64, 0] := by decide +kernel
theorem off3_eq : ∀ n : Fin 16, k0_off3 (BitVec.ofNat 32 n.val) = ![0, 0, n.val, 0, 0] := by decide +kernel
theorem off4_eq : ∀ n : Fin 16, k0_off4 (BitVec.ofNat 32 n.val) = ![0, 0, n.val, 64, 0] := by decide +kernel
theorem cond1_iff : ∀ i : grid0.Coords, Scalar.cmpi .ne (Scalar.extui (Scalar.cmpi .eq (BitVec.ofNat 32 (i 2).val) 0#32) : BitVec 32) 0#32 = 1#1 ↔ (i 2).val = 0 := by decide +kernel
theorem trips_t2 : ∀ i : grid0.Coords, (k0_t2_loop i).trips = 0 := by decide +kernel

end Cert.Fox

end
-- ==== Proof.Loop.lean ====
/-
  One trip of the attention call's counted loop: four key blocks of the recurrence.
-/
module

public import proofs.«01_k».proof.Proof.Pay
public import proofs.«01_k».proof.Proof.Offsets
public import Idealize.ShloMosaic.Lib.Tactic
public import Idealize.ShloMosaic.Lib.Pipeline.FrameBody
public import Idealize.ShloMosaic.Lib.Pipeline.ReadBack

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref's buffer on core `c`: its contents, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A load through the last write's own rectangle, and one whose box the last write's rectangle misses. -/
theorem readAt_cons_self {sp : Space} {S : Shape} {e : EltTy} (v : View sig .tc sp S e) (f : v.ty.Contents (Elt F)) (r : Rect S) (w : r.shape.Idx → Elt F e)
    (L : List (View.Piece (Elt F) S e)) : v.readAt (Elt F) r.toLoadRect (v.writes (Elt F) f (⟨r, w⟩ :: L)) = w :=
  funext fun j => View.read_writes_cons_emb v f r w L j

theorem readAt_cons_skip {sp : Space} {S : Shape} {e : EltTy} (v : View sig .tc sp S e) (f : v.ty.Contents (Elt F)) (r : Rect S) (w : r.shape.Idx → Elt F e)
    (L : List (View.Piece (Elt F) S e)) (B : LoadRect S) (h : LoadRect.disj r B = true) :
    v.readAt (Elt F) B (v.writes (Elt F) f (⟨r, w⟩ :: L)) = v.readAt (Elt F) B (v.writes (Elt F) f L) :=
  funext fun j => View.read_writes_apply_of_forall_not_mem v (v.writes (Elt F) f L) _ [⟨r, w⟩] fun p hp => by
    rw [List.mem_singleton] at hp; subst hp; exact LoadRect.idx_not_mem_of_disj h j

/-- The state of the recurrence before the `n`-th key block: the carried maxima and block index, and what the scores'
    first slots and the accumulators hold. -/
structure Inv (c : Dev nD) (I : Inp F) (arg9 : Memref sig .tc .vmem S2x2x512x512 .f32) (arg10 : Memref sig .tc .vmem S2x80x512 .f32) (n : Nat)
    (a : FVec F S1x512 .f32 × FVec F S1x512 .f32 × FVec F S1x512 .f32 × FVec F S1x512 .f32 × BitVec 32) (f9 : Bf (F := F) c arg9) (f10 : Bf (F := F) c arg10) : Prop where
  m0 : a.1 = I.M 0 n
  m1 : a.2.1 = I.M 1 n
  b0 : a.2.2.1 = I.B 0 n
  b1 : a.2.2.2.1 = I.B 1 n
  j : a.2.2.2.2 = BitVec.ofNat 32 (I.blk n)
  t0 : arg9.view.readAt (Elt F) (Rect.unit (s := S2x2x512x512) ![0, 0, 0, 0] S1x1x512x512.size inb_S2x2x512x512_S1x1x512x512_0_0_0_0).toLoadRect f9 = I.T 0 n
  t1 : arg9.view.readAt (Elt F) (Rect.unit (s := S2x2x512x512) ![0, 1, 0, 0] S1x1x512x512.size inb_S2x2x512x512_S1x1x512x512_0_1_0_0).toLoadRect f9 = I.T 1 n
  acc0 : arg10.view.readAt (Elt F) (Rect.unit (s := S2x80x512) ![0, 0, 0] S1x80x512.size inb_S2x80x512_S1x80x512_0_0_0).toLoadRect f10 = I.A 0 n
  acc1 : arg10.view.readAt (Elt F) (Rect.unit (s := S2x80x512) ![1, 0, 0] S1x80x512.size inb_S2x80x512_S1x80x512_1_0_0).toLoadRect f10 = I.A 1 n

/-- What the key, bias and value windows hold, block by block. -/
structure Src (c : Dev nD) (I : Inp F) (arg4 arg5 : Memref sig .tc .vmem S8192x128 .bf16) (arg6 : Memref sig .tc .vmem S1x1x16x128x512 .bf16)
    (f4 : Bf (F := F) c arg4) (f5 : Bf (F := F) c arg5) (f6 : Bf (F := F) c arg6) : Prop where
  k : ∀ n off (hin : ∀ a, off a + S512x128.size a ≤ S8192x128.size a), off = ![512 * n, 0] →
    arg4.view.readAt (Elt F) (Rect.unit (s := S8192x128) off S512x128.size hin).toLoadRect f4 = I.k n
  aug : ∀ n off (hin : ∀ a, off a + S512x128.size a ≤ S8192x128.size a), off = ![512 * n, 0] →
    arg5.view.readAt (Elt F) (Rect.unit (s := S8192x128) off S512x128.size hin).toLoadRect f5 = I.aug n
  v0 : ∀ n off (hin : ∀ a, off a + S1x1x1x64x512.size a ≤ S1x1x16x128x512.size a), off = ![0, 0, n, 0, 0] →
    arg6.view.readAt (Elt F) (Rect.unit (s := S1x1x16x128x512) off S1x1x1x64x512.size hin).toLoadRect f6 = I.v 0 n
  v1 : ∀ n off (hin : ∀ a, off a + S1x1x1x64x512.size a ≤ S1x1x16x128x512.size a), off = ![0, 0, n, 64, 0] →
    arg6.view.readAt (Elt F) (Rect.unit (s := S1x1x16x128x512) off S1x1x1x64x512.size hin).toLoadRect f6 = I.v 1 n

theorem j_eq : ∀ (i : grid0.Coords) (k : Fin (k0_t1_loop i).trips), Scalar.addi (Scalar.addi (Scalar.muli 4#32 (Scf.iv 0#32 1#32 k)) 2#32) 1#32 = BitVec.ofNat 32 (4 * k.val + 3) := by
  decide +kernel

section Trip
variable (c : Dev nD) (i : grid0.Coords)
  (arg3 : Memref sig .tc .vmem S512x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S1x1x16x128x512 .bf16) (harg6 : arg6.IsWhole)
  (arg7 : Memref sig .tc .vmem S512x128 .bf16) (harg7 : arg7.IsWhole) (arg8 : Memref sig .tc .vmem S512x512 .f32) (harg8 : arg8.IsWhole)
  (arg9 : Memref sig .tc .vmem S2x2x512x512 .f32) (harg9 : arg9.IsWhole) (arg10 : Memref sig .tc .vmem S2x80x512 .f32) (harg10 : arg10.IsWhole)

theorem trip (I : Inp F) (hqi : I.qi < 16) (f4 : Bf (F := F) c arg4) (f5 : Bf (F := F) c arg5) (f6 : Bf (F := F) c arg6) (f9 : Bf (F := F) c arg9) (f10 : Bf (F := F) c arg10)
    (arg2 : BitVec 32) (v45 v46 v62 v69 : FVec F S1x512 .f32)
    (k : Fin (k0_t1_loop i).trips) (a : FVec F S1x512 .f32 × FVec F S1x512 .f32 × FVec F S1x512 .f32 × FVec F S1x512 .f32 × BitVec 32)
    (hS : Src c I arg4 arg5 arg6 f4 f5 f6) (hI : Inv c I arg9 arg10 (4 * k.val) a f9 f10) :
    iprop(pt c arg4 f4 ∗ pt c arg5 f5 ∗ pt c arg6 f6 ∗ pt c arg9 f9 ∗ pt c arg10 f10)
    ⊢ wp frame (wpE (defs₀ (F := F)) Variants.none c none) Set.univ
        (k0_t1_body (F := F) i arg3 harg3 arg4 harg4 arg5 harg5 arg6 harg6 arg7 harg7 arg8 harg8 arg9 harg9 arg10 harg10 arg2 (I.qa 0) (I.qa 1) v45 v46 v62 v69 k a)
        fun a' => iprop(∃ f9' f10', pt c arg4 f4 ∗ pt c arg5 f5 ∗ pt c arg6 f6 ∗ pt c arg9 f9' ∗ pt c arg10 f10' ∗ ⌜Inv c I arg9 arg10 (4 * k.val + 4) a' f9' f10'⌝) := by
  obtain ⟨a0, a1, a2, a3, j⟩ := a
  obtain ⟨hm0, hm1, hb0, hb1, hj, ht0, ht1, ha0, ha1⟩ := hI
  simp only at hm0 hm1 hb0 hb1 hj
  have hblk : I.blk (4 * k.val) < 16 := by
    have hk : k.val < (i 2).val / 4 := lt_of_lt_of_eq k.isLt (trips_t1 i)
    have h2 : (i 2).val < 16 := (i 2).isLt
    rcases Nat.eq_zero_or_pos k.val with h | h
    · rw [h]; exact hqi
    · obtain ⟨n, hn⟩ : ∃ n, 4 * k.val = n + 1 := ⟨4 * k.val - 1, by omega⟩
      rw [hn]; show n < 16; omega
  have ho3 : k0_off3 j = ![0, 0, I.blk (4 * k.val), 0, 0] := by rw [hj]; exact off3_eq ⟨_, hblk⟩
  have ho4 : k0_off4 j = ![0, 0, I.blk (4 * k.val), 64, 0] := by rw [hj]; exact off4_eq ⟨_, hblk⟩
  have hchk : k0_chk1 i k j := by
    refine ⟨?_, ?_⟩
    · rw [ho3]; intro a; fin_cases a <;> simp [S1x1x1x64x512, S1x1x16x128x512] ; omega
    · rw [ho4]; intro a; fin_cases a <;> simp [S1x1x1x64x512, S1x1x16x128x512] ; omega
  subst hm0 hm1 hb0 hb1
  have eK2 := hS.k _ _ (k0_off2_inb i k) (off2_eq i k)
  have eA2 := hS.aug _ _ (k0_off2_inb i k) (off2_eq i k)
  have eK51 := hS.k _ _ (k0_off5_inb i k 0) (off5_1_eq i k)
  have eA51 := hS.aug _ _ (k0_off5_inb i k 0) (off5_1_eq i k)
  have eK52 := hS.k _ _ (k0_off5_inb i k 1) (off5_2_eq i k)
  have eA52 := hS.aug _ _ (k0_off5_inb i k 1) (off5_2_eq i k)
  have eK10 := hS.k _ _ (k0_off10_inb i k) (off10_eq i k)
  have eA10 := hS.aug _ _ (k0_off10_inb i k) (off10_eq i k)
  have eV3 := hS.v0 _ _ (k0_off3_inb i k j hchk) ho3
  have eV4 := hS.v1 _ _ (k0_off4_inb i k j hchk) ho4
  have eV6 := hS.v0 _ _ (k0_off6_inb i k) (off6_eq i k)
  have eV7 := hS.v1 _ _ (k0_off7_inb i k) (off7_eq i k)
  have eV81 := hS.v0 _ _ (k0_off8_inb i k 0) (off8_1_eq i k)
  have eV91 := hS.v1 _ _ (k0_off9_inb i k 0) (off9_1_eq i k)
  have eV82 := hS.v0 _ _ (k0_off8_inb i k 1) (off8_2_eq i k)
  have eV92 := hS.v1 _ _ (k0_off9_inb i k 1) (off9_2_eq i k)
  sl_unfold [k0_t1_body]
  iintro ⟨H4, H5, H6, H9, H10⟩
  sl_exec
  sl_step
  iexists _, _
  iframe H4 H5 H6 H9 H10
  ipureintro
  have e4 : 4 * k.val + 4 = 4 * k.val + 1 + 1 + 1 + 1 := rfl
  have e3 : 4 * k.val + 3 = 4 * k.val + 1 + 1 + 1 := rfl
  have e2 : 4 * k.val + 2 = 4 * k.val + 1 + 1 := rfl
  sl_unfold_words
  refine ⟨?_, ?_, ?_, ?_, ?_, ?_, ?_, ?_, ?_⟩
  · simp only [p15, p29, p31, p44, p46, p60, p62, p16, p30, p32, p45, p47, p61, p63, p20, p33, p36, p48, p51, p64, p67, p21, p34, p37, p49, p52, p65, p68, p35, p50, p66, p69, p39, p55, p272, p273, p25, p40, p56, e4, e3, e2, Inp.M_succ, Inp.B_succ, Inp.T_succ, Inp.blk_succ]
  · simp only [p15, p29, p31, p44, p46, p60, p62, p16, p30, p32, p45, p47, p61, p63, p20, p33, p36, p48, p51, p64, p67, p21, p34, p37, p49, p52, p65, p68, p35, p50, p66, p69, p39, p55, p272, p273, p25, p40, p56, e4, e3, e2, Inp.M_succ, Inp.B_succ, Inp.T_succ, Inp.blk_succ]
  · simp only [p15, p29, p31, p44, p46, p60, p62, p16, p30, p32, p45, p47, p61, p63, p20, p33, p36, p48, p51, p64, p67, p21, p34, p37, p49, p52, p65, p68, p35, p50, p66, p69, p39, p55, p272, p273, p25, p40, p56, e4, e3, e2, Inp.M_succ, Inp.B_succ, Inp.T_succ, Inp.blk_succ]
  · simp only [p15, p29, p31, p44, p46, p60, p62, p16, p30, p32, p45, p47, p61, p63, p20, p33, p36, p48, p51, p64, p67, p21, p34, p37, p49, p52, p65, p68, p35, p50, p66, p69, p39, p55, p272, p273, p25, p40, p56, e4, e3, e2, Inp.M_succ, Inp.B_succ, Inp.T_succ, Inp.blk_succ]
  · exact j_eq i k
  · refine (readAt_cons_skip _ _ _ _ _ _ (by rfl)).trans ((readAt_cons_self _ _ _ _ _).trans ?_)
    simp only [p15, p29, p31, p44, p46, p60, p62, p16, p30, p32, p45, p47, p61, p63, p20, p33, p36, p48, p51, p64, p67, p21, p34, p37, p49, p52, p65, p68, p35, p50, p66, p69, p39, p55, p272, p273, p25, p40, p56, e4, e3, e2, Inp.M_succ, Inp.B_succ, Inp.T_succ, Inp.blk_succ]
  · refine (readAt_cons_self _ _ _ _ _).trans ?_
    simp only [p15, p29, p31, p44, p46, p60, p62, p16, p30, p32, p45, p47, p61, p63, p20, p33, p36, p48, p51, p64, p67, p21, p34, p37, p49, p52, p65, p68, p35, p50, p66, p69, p39, p55, p272, p273, p25, p40, p56, e4, e3, e2, Inp.M_succ, Inp.B_succ, Inp.T_succ, Inp.blk_succ]
  · refine (readAt_cons_skip _ _ _ _ _ _ (by rfl)).trans ((readAt_cons_self _ _ _ _ _).trans ?_)
    simp (disch := decide) only [↓ View.readCov_skip, ↓ View.readCov_cons_toLoadRect]
    simp only [p15, p29, p31, p44, p46, p60, p62, p16, p30, p32, p45, p47, p61, p63, p20, p33, p36, p48, p51, p64, p67, p21, p34, p37, p49, p52, p65, p68, p35, p50, p66, p69, p39, p55, p272, p273, p25, p40, p56, e4, e3, e2, Inp.M_succ, Inp.A_succ, Inp.B_succ, Inp.T_succ, Inp.blk_succ]
  · refine (readAt_cons_self _ _ _ _ _).trans ?_
    simp (disch := decide) only [↓ View.readCov_skip, ↓ View.readCov_cons_toLoadRect]
    simp only [p15, p29, p31, p44, p46, p60, p62, p16, p30, p32, p45, p47, p61, p63, p20, p33, p36, p48, p51, p64, p67, p21, p34, p37, p49, p52, p65, p68, p35, p50, p66, p69, p39, p55, p272, p273, p25, p40, p56, e4, e3, e2, Inp.M_succ, Inp.A_succ, Inp.B_succ, Inp.T_succ, Inp.blk_succ]

end Trip

end Cert.Fox

end
-- ==== Proof.Body.lean ====
/-
  The attention call's body at one grid point: the causal mask, the query block's own scores, the counted loop, the
  switch on what is left of it, and the block it stores.
-/
module

public import proofs.«01_k».proof.Proof.Loop
public import Idealize.ShloMosaic.Lib.LoopRemainder

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Body
variable (c : Dev nD) (i : grid0.Coords)
  (arg3 : Memref sig .tc .vmem S512x128 .bf16) (harg3 : arg3.IsWhole) (arg4 : Memref sig .tc .vmem S8192x128 .bf16) (harg4 : arg4.IsWhole)
  (arg5 : Memref sig .tc .vmem S8192x128 .bf16) (harg5 : arg5.IsWhole) (arg6 : Memref sig .tc .vmem S1x1x16x128x512 .bf16) (harg6 : arg6.IsWhole)
  (arg7 : Memref sig .tc .vmem S512x128 .bf16) (harg7 : arg7.IsWhole) (arg8 : Memref sig .tc .vmem S512x512 .f32) (harg8 : arg8.IsWhole)
  (arg9 : Memref sig .tc .vmem S2x2x512x512 .f32) (harg9 : arg9.IsWhole) (arg10 : Memref sig .tc .vmem S2x80x512 .f32) (harg10 : arg10.IsWhole)

/-- A head's 64 rows of weighted values and its row of weight sums, out of the accumulator's 80 rows. -/
def rowsOf (w : FVec F S1x80x512 .f32) : FVec F S1x64x512 .f32 := fun j => w ((Rect.unit (s := S1x80x512) ![0, 0, 0] S1x64x512.size (by decide)).emb j)
def sumOf (w : FVec F S1x80x512 .f32) : FVec F S1x1x512 .f32 := fun j => w ((Rect.unit (s := S1x80x512) ![0, 64, 0] S1x1x512.size (by decide)).emb j)

/-- The block one grid point stores. -/
def Inp.out (I : Inp F) : FVec F S512x128 .bf16 :=
  k0_pay9 (rowsOf (I.A 0 (I.qi + 1))) (sumOf (I.A 0 (I.qi + 1))) (rowsOf (I.A 1 (I.qi + 1))) (sumOf (I.A 1 (I.qi + 1)))

theorem rc_rows (v : View sig .tc .vmem S2x80x512 .f32) (hh : Nat) (h1 : ∀ a, ![hh, 0, 0] a + S1x80x512.size a ≤ S2x80x512.size a)
    (h2 : ∀ a, ![hh, 0, 0] a + S1x64x512.size a ≤ S2x80x512.size a) (w : FVec F S1x80x512 .f32) (L : List (View.Piece (Elt F) S2x80x512 .f32)) :
    v.readCov (Val := Elt F) (⟨Rect.unit (s := S2x80x512) ![hh, 0, 0] S1x80x512.size h1, w⟩ :: L) (Rect.unit (s := S2x80x512) ![hh, 0, 0] S1x64x512.size h2).toLoadRect = rowsOf w := by
  rw [View.readCov_eq_canon']
  funext j
  refine Eq.trans (congrArg _ ?_) (View.canon_cons_emb (Rect.unit (s := S2x80x512) ![hh, 0, 0] S1x80x512.size h1) w L
    ((Rect.unit (s := S1x80x512) ![0, 0, 0] S1x64x512.size (by decide)).emb j))
  funext a
  refine Fin.ext ?_
  have h0 : (j 0).val < 1 := (j 0).isLt
  fin_cases a <;> simp [LoadRect.idx, Rect.unit, Rect.emb]
  omega

theorem rc_sum (v : View sig .tc .vmem S2x80x512 .f32) (hh : Nat) (h1 : ∀ a, ![hh, 0, 0] a + S1x80x512.size a ≤ S2x80x512.size a)
    (h2 : ∀ a, ![hh, 64, 0] a + S1x1x512.size a ≤ S2x80x512.size a) (w : FVec F S1x80x512 .f32) (L : List (View.Piece (Elt F) S2x80x512 .f32)) :
    v.readCov (Val := Elt F) (⟨Rect.unit (s := S2x80x512) ![hh, 0, 0] S1x80x512.size h1, w⟩ :: L) (Rect.unit (s := S2x80x512) ![hh, 64, 0] S1x1x512.size h2).toLoadRect = sumOf w := by
  rw [View.readCov_eq_canon']
  funext j
  refine Eq.trans (congrArg _ ?_) (View.canon_cons_emb (Rect.unit (s := S2x80x512) ![hh, 0, 0] S1x80x512.size h1) w L
    ((Rect.unit (s := S1x80x512) ![0, 64, 0] S1x1x512.size (by decide)).emb j))
  funext a
  refine Fin.ext ?_
  have h0 : (j 0).val < 1 := (j 0).isLt
  fin_cases a <;> simp [LoadRect.idx, Rect.unit, Rect.emb]
  omega

theorem ra_fill (v : View sig .tc .vmem S2x80x512 .f32) (f : v.ty.Contents (Elt F)) (hh : Nat) (h1 : ∀ a, ![0, 0, 0] a + S2x80x512.size a ≤ S2x80x512.size a)
    (h2 : ∀ a, ![hh, 0, 0] a + S1x80x512.size a ≤ S2x80x512.size a) (w : FVec F S2x80x512 .f32) (z : F .f32) (hw : w = fun _ => z)
    (L : List (View.Piece (Elt F) S2x80x512 .f32)) :
    v.readAt (Elt F) (Rect.unit (s := S2x80x512) ![hh, 0, 0] S1x80x512.size h2).toLoadRect
      (v.writes (Elt F) f (⟨Rect.unit (s := S2x80x512) ![0, 0, 0] S2x80x512.size h1, w⟩ :: L)) = fun _ => z := by
  subst hw
  funext j
  have e : ∀ y : S2x80x512.Idx, (Rect.unit (s := S2x80x512) ![0, 0, 0] S2x80x512.size h1).emb y = y := fun y => by
    funext a
    refine Fin.ext ?_
    fin_cases a <;> simp [Rect.unit, Rect.emb]
  have h : ∀ y : S2x80x512.Idx, v.read (Elt F) (v.writes (Elt F) f (⟨Rect.unit (s := S2x80x512) ![0, 0, 0] S2x80x512.size h1, fun _ => z⟩ :: L)) y = z := fun y => by
    have := View.read_writes_cons_emb v f (Rect.unit (s := S2x80x512) ![0, 0, 0] S2x80x512.size h1) (fun _ => z) L y
    rwa [e y] at this
  rw [View.readAt_apply]
  exact h _

theorem pay262_eq : k0_pay262 (F := F) = fun _ => Scalar.ofBits .f32 0x00000000#32 := rfl

theorem B_zero (I : Inp F) (hh : Fin 2) : I.B hh 0 = k0_pay268 (I.qa hh) (I.k I.qi) (I.aug I.qi) I.mask := rfl
theorem qa_zero (I : Inp F) : I.qa 0 = k0_pay256 I.q := rfl
theorem qa_one (I : Inp F) : I.qa 1 = k0_pay261 (k0_pay257 I.q) k0_pay258 (k0_pay259 (F := F)) (k0_pay260 (F := F)) := rfl

theorem inb_val (n : Nat) (hn : n < 16) (r : Nat) (hr : r ≤ 64) : ∀ a, ![0, 0, n, r, 0] a + S1x1x1x64x512.size a ≤ S1x1x16x128x512.size a := by
  intro a; fin_cases a <;> simp [S1x1x1x64x512, S1x1x16x128x512] <;> omega

set_option warn.classDefReducibility false in
/-- The counted loop's invariant: before its `k`-th trip, the recurrence's state before key block `4 k`. -/
def loopL (I : Inp F) (hqi : I.qi < 16) (f4 : Bf (F := F) c arg4) (f5 : Bf (F := F) c arg5) (f6 : Bf (F := F) c arg6) (hS : Src c I arg4 arg5 arg6 f4 f5 f6)
    (arg2 : BitVec 32) (v45 v46 v62 v69 : FVec F S1x512 .f32) (init : FVec F S1x512 .f32 × FVec F S1x512 .f32 × FVec F S1x512 .f32 × FVec F S1x512 .f32 × BitVec 32) :
    LoopInvTy_k0_t1 (F := F) Unit ℕ (UR sig nD τ) ℕ Variants.none c none Set.univ i arg3 harg3 arg4 harg4 arg5 harg5 arg6 harg6 arg7 harg7 arg8 harg8 arg9 harg9 arg10 harg10
      arg2 (I.qa 0) (I.qa 1) v45 v46 v62 v69 init where
  inv k a := iprop(∃ f9 f10, pt c arg4 f4 ∗ pt c arg5 f5 ∗ pt c arg6 f6 ∗ pt c arg9 f9 ∗ pt c arg10 f10 ∗ ⌜Inv c I arg9 arg10 (4 * k) a f9 f10⌝)
  step k a := by
    iintro ⟨%f9, %f10, H4, H5, H6, H9, H10, %hI⟩
    iapply (trip c i arg3 harg3 arg4 harg4 arg5 harg5 arg6 harg6 arg7 harg7 arg8 harg8 arg9 harg9 arg10 harg10 I hqi f4 f5 f6 f9 f10 arg2 v45 v46 v62 v69 k a hS hI)
    iframe H4 H5 H6 H9 H10

theorem loop_rule (I : Inp F) (hqi : I.qi < 16) (f4 : Bf (F := F) c arg4) (f5 : Bf (F := F) c arg5) (f6 : Bf (F := F) c arg6) (hS : Src c I arg4 arg5 arg6 f4 f5 f6)
    (arg2 : BitVec 32) (v45 v46 v62 v69 : FVec F S1x512 .f32) (init : FVec F S1x512 .f32 × FVec F S1x512 .f32 × FVec F S1x512 .f32 × FVec F S1x512 .f32 × BitVec 32)
    {β : Type} {kk : _ → Prog (TpuEff nD τ sig (Elt F) Λ₀ .tc) β} {Q : β → sProp 𝕄} :
    iprop(∃ f9 f10, pt c arg4 f4 ∗ pt c arg5 f5 ∗ pt c arg6 f6 ∗ pt c arg9 f9 ∗ pt c arg10 f10 ∗ ⌜Inv c I arg9 arg10 0 init f9 f10⌝)
    ⊢ iprop((∀ acc, (∃ f9 f10, pt c arg4 f4 ∗ pt c arg5 f5 ∗ pt c arg6 f6 ∗ pt c arg9 f9 ∗ pt c arg10 f10 ∗ ⌜Inv c I arg9 arg10 (4 * ((i 2).val / 4)) acc f9 f10⌝)
        -∗ wp frame (wpE (defs₀ (F := F)) Variants.none (c : Thread nD τ) none) Set.univ (kk acc) Q)
      -∗ wp frame (wpE (defs₀ (F := F)) Variants.none (c : Thread nD τ) none) Set.univ
          ((k0_t1_loop i).for (k0_t1_ok i) init (k0_t1_body (F := F) i arg3 harg3 arg4 harg4 arg5 harg5 arg6 harg6 arg7 harg7 arg8 harg8 arg9 harg9 arg10 harg10
            arg2 (I.qa 0) (I.qa 1) v45 v46 v62 v69) >>= kk) Q) := by
  rw [← trips_t1 i]
  exact exec_loop Idealize.ShloMosaic.frame (wpE (defs₀ (F := F)) Variants.none (c : Thread nD τ) none) Set.univ _ _ _ _ _ _
    (loopL c i arg3 harg3 arg4 harg4 arg5 harg5 arg6 harg6 arg7 harg7 arg8 harg8 arg9 harg9 arg10 harg10 I hqi f4 f5 f6 hS arg2 v45 v46 v62 v69 init)

theorem body0 (I : Inp F) (hqi : I.qi = (i 2).val) (hmask : I.mask = k0_pay254) (f3 : Bf (F := F) c arg3) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10)
    (hq : arg3.view.readAt (Elt F) (Rect.unit (s := S512x128) ![0, 0] S512x128.size inb_S512x128_S512x128_0_0).toLoadRect f3 = I.q)
    (hm : (i 2).val ≠ 0 → arg8.view.readAt (Elt F) (Rect.unit (s := S512x512) ![0, 0] S512x512.size inb_S512x512_S512x512_0_0).toLoadRect f8 = k0_pay254)
    (hS : Src c I arg4 arg5 arg6 f4 f5 f6) :
    iprop(pt c arg3 f3 ∗ pt c arg4 f4 ∗ pt c arg5 f5 ∗ pt c arg6 f6 ∗ pt c arg7 f7 ∗ pt c arg8 f8 ∗ pt c arg9 f9 ∗ pt c arg10 f10)
    ⊢ wp frame (wpE (defs₀ (F := F)) Variants.none c none) Set.univ
        (cc0_fox_attn (F := F) i arg3 harg3 arg4 harg4 arg5 harg5 arg6 harg6 arg7 harg7 arg8 harg8 arg9 harg9 arg10 harg10)
        fun _ => iprop(∃ g7 g8 g9 g10, pt c arg3 f3 ∗ pt c arg4 f4 ∗ pt c arg5 f5 ∗ pt c arg6 f6 ∗ pt c arg7 g7 ∗ pt c arg8 g8 ∗ pt c arg9 g9 ∗ pt c arg10 g10
          ∗ ⌜arg7.view.readAt (Elt F) (Rect.unit (s := S512x128) ![0, 0] S512x128.size inb_S512x128_S512x128_0_0).toLoadRect g7 = I.out⌝
          ∗ ⌜arg8.view.readAt (Elt F) (Rect.unit (s := S512x512) ![0, 0] S512x512.size inb_S512x512_S512x512_0_0).toLoadRect g8 = k0_pay254⌝) := by
  rw [cc0_fox_attn_eq_skeleton]
  have hqi16 : I.qi < 16 := hqi ▸ (i 2).isLt
  have eK := hS.k _ _ (k0_off1_inb i) ((k0_off1_eq i).trans (by rw [← hqi]))
  have eA := hS.aug _ _ (k0_off1_inb i) ((k0_off1_eq i).trans (by rw [← hqi]))
  unfold cc0_fox_attn_skel
  iintro ⟨H3, H4, H5, H6, H7, H8, H9, H10⟩
  sl_exec
  have e56 : body0.sl.v56 c i arg8 f8 = I.mask := by
    sl_unfold_words
    rw [hmask]
    split
    · exact readAt_cons_self _ _ _ _ _
    · exact hm fun h => absurd ((cond1_iff i).mpr h) ‹_›
  have r3 : body0.sl.r_3 c i arg8 I f8 = I.B 0 0 := by
    rw [B_zero, qa_zero]
    unfold body0.sl.r_3
    rw [e56]
    unfold body0.sl.r
    rfl
  have r4 : body0.sl.r_4 c i arg8 I f8 = I.B 1 0 := by
    rw [B_zero, qa_one]
    unfold body0.sl.r_4
    rw [e56]
    unfold body0.sl.r_1
    exact p271 _ _ _ _
  iapply (loop_rule c i arg3 harg3 arg4 harg4 arg5 harg5 arg6 harg6 arg7 harg7 arg8 harg8 arg9 harg9 arg10 harg10 I hqi16 f4 f5 f6 hS) $$ [H4 H5 H6 H9 H10]
  · iexists _, _
    iframe H4 H5 H6 H9 H10
    ipureintro
    rw [e56]
    refine ⟨rfl, rfl, ?_, ?_, ?_, ?_, ?_, ?_, ?_⟩
    · dsimp only; exact r3
    · dsimp only; exact r4
    · show BitVec.ofNat 32 (i 2).val = BitVec.ofNat 32 I.qi
      rw [hqi]
    · exact (readAt_cons_skip _ _ _ _ _ _ (by rfl)).trans (readAt_cons_self _ _ _ _ _)
    · exact readAt_cons_self _ _ _ _ _
    · sl_unfold_words
      exact ra_fill _ _ _ _ _ _ _ pay262_eq _
    · sl_unfold_words
      exact ra_fill _ _ _ _ _ _ _ pay262_eq _
  iintro %acc ⟨%g9, %g10, H4, H5, H6, H9, H10, %hI⟩
  obtain ⟨a0, a1, a2, a3, j⟩ := acc
  obtain ⟨hm0, hm1, hb0, hb1, hj, ht0, ht1, ha0, ha1⟩ := hI
  simp only at hm0 hm1 hb0 hb1 hj
  subst hm0 hm1 hb0 hb1
  have hi2 : (i 2).val < 16 := (i 2).isLt
  have hblk : I.blk (4 * ((i 2).val / 4)) < 16 := by
    rcases Nat.eq_zero_or_pos (4 * ((i 2).val / 4)) with h | h
    · rw [h]; exact hqi16
    · obtain ⟨n, hn⟩ : ∃ n, 4 * ((i 2).val / 4) = n + 1 := ⟨4 * ((i 2).val / 4) - 1, by omega⟩
      rw [hn]; show n < 16; omega
  have hchk : k0_chk3 i j := by
    rw [hj]
    refine ⟨?_, ?_, ?_, ?_, ?_, ?_, ?_, ?_⟩
    · intro _ _ _; rw [off21_eq ⟨_, hblk⟩]; exact inb_val _ hblk 0 (by decide)
    · intro _ _ _; rw [off22_eq ⟨_, hblk⟩]; exact inb_val _ hblk 64 (by decide)
    · intro _ _ _; rw [off27_eq ⟨_, hblk⟩]; exact inb_val _ hblk 0 (by decide)
    · intro _ _ _; rw [off28_eq ⟨_, hblk⟩]; exact inb_val _ hblk 64 (by decide)
    · intro _ _; rw [off32_eq ⟨_, hblk⟩]; exact inb_val _ hblk 0 (by decide)
    · intro _ _; rw [off33_eq ⟨_, hblk⟩]; exact inb_val _ hblk 64 (by decide)
    · intro _; rw [off36_eq ⟨_, hblk⟩]; exact inb_val _ hblk 0 (by decide)
    · intro _; rw [off37_eq ⟨_, hblk⟩]; exact inb_val _ hblk 64 (by decide)
  have h8 : arg8.view.readAt (Elt F) (Rect.unit (s := S512x512) ![0, 0] S512x512.size inb_S512x512_S512x512_0_0).toLoadRect
      (if hc : body0.sl.v2 i = 1#1 then
        arg8.view.writes (Elt F) f8 [⟨Rect.unit ![0, 0] S512x512.size inb_S512x512_S512x512_0_0, k0_pay254⟩]
      else f8) = k0_pay254 := by
    by_cases hc : body0.sl.v2 i = 1#1
    · rw [dif_pos hc]; exact readAt_cons_self _ _ _ _ _
    · rw [dif_neg hc]; exact hm fun h => hc ((cond1_iff i).mpr h)
  have c2 := cond2_iff i
  have c3 := cond3_iff i
  have c4 := cond4_iff i
  have e3 : 4 * ((i 2).val / 4) + 3 = 4 * ((i 2).val / 4) + 1 + 1 + 1 := rfl
  have e2 : 4 * ((i 2).val / 4) + 2 = 4 * ((i 2).val / 4) + 1 + 1 := rfl
  by_cases h2 : k0_cond2 i = 1#1
  case pos =>
   by_cases h3 : k0_cond3 i = 1#1
   case pos =>
    by_cases h4 : k0_cond4 i = 1#1
    case pos =>
     have eK20 := hS.k _ _ (k0_off20_inb i h2 h3 h4) (off20_eq i h2 h3 h4)
     have eA20 := hS.aug _ _ (k0_off20_inb i h2 h3 h4) (off20_eq i h2 h3 h4)
     have eK230 := hS.k _ _ (k0_off23_inb i h2 h3 h4 0) (off23_1_eq i h2 h3 h4)
     have eA230 := hS.aug _ _ (k0_off23_inb i h2 h3 h4 0) (off23_1_eq i h2 h3 h4)
     have eK231 := hS.k _ _ (k0_off23_inb i h2 h3 h4 1) (off23_2_eq i h2 h3 h4)
     have eA231 := hS.aug _ _ (k0_off23_inb i h2 h3 h4 1) (off23_2_eq i h2 h3 h4)
     have eV21 := hS.v0 _ _ (k0_off21_inb i j hchk h2 h3 h4) (hj ▸ off21_eq ⟨_, hblk⟩)
     have eV240 := hS.v0 _ _ (k0_off24_inb i h2 h3 h4 0) (off24_0_eq i h2 h3 h4)
     have eV241 := hS.v0 _ _ (k0_off24_inb i h2 h3 h4 1) (off24_1_eq i h2 h3 h4)
     have eV242 := hS.v0 _ _ (k0_off24_inb i h2 h3 h4 2) (off24_2_eq i h2 h3 h4)
     have eV22 := hS.v1 _ _ (k0_off22_inb i j hchk h2 h3 h4) (hj ▸ off22_eq ⟨_, hblk⟩)
     have eV250 := hS.v1 _ _ (k0_off25_inb i h2 h3 h4 0) (off25_0_eq i h2 h3 h4)
     have eV251 := hS.v1 _ _ (k0_off25_inb i h2 h3 h4 1) (off25_1_eq i h2 h3 h4)
     have eV252 := hS.v1 _ _ (k0_off25_inb i h2 h3 h4 2) (off25_2_eq i h2 h3 h4)
     have hr := (c4 h2 h3).mp h4
     have eN : I.qi + 1 = 4 * ((i 2).val / 4) + 1 + 1 + 1 + 1 := by rw [hqi]; omega
     sl_exec
     sl_step
     iexists _, _, _, _
     iframe H3 H4 H5 H6 H7 H8 H9 H10
     ipureintro
     refine ⟨?_, h8⟩
     refine (readAt_cons_self _ _ _ _ _).trans ?_
     rw [Inp.out, eN]
     sl_unfold_words
     simp (disch := decide) only [↓ View.readCov_skip, ↓ View.readCov_cons_toLoadRect, ↓ rc_rows, ↓ rc_sum]
     simp only [p15, p29, p31, p44, p46, p60, p62, p135, p137, p151, p153, p167, p169, p190, p192, p206, p208, p229, p231, p16, p30, p32, p45, p47, p61, p63, p136, p138, p152, p154, p168, p170, p191, p193, p207, p209, p230, p232, p20, p139, p142, p194, p197, p233, p236, p33, p36, p48, p51, p64, p67, p155, p158, p171, p174, p210, p213, p21, p140, p143, p195, p198, p234, p237, p34, p37, p49, p52, p65, p68, p156, p159, p172, p175, p211, p214, p141, p196, p235, p35, p50, p66, p69, p157, p173, p176, p212, p39, p55, p146, p162, p178, p179, p201, p217, p240, p272, p273, p25, p40, p56, p147, p163, p186, p1, p202, p218, p225, p3, p241, p248, p5, p7, p8, p2, p4, p6, p264, p270, p271, e3, e2, Inp.M_succ, Inp.A_succ, Inp.B_succ, Inp.T_succ, Inp.blk_succ, qa_zero, qa_one]

    case neg =>
     have eK260 := hS.k _ _ (k0_off26_inb i h2 h3 h4 0) (off26_0_eq i h2 h3 h4)
     have eA260 := hS.aug _ _ (k0_off26_inb i h2 h3 h4 0) (off26_0_eq i h2 h3 h4)
     have eK261 := hS.k _ _ (k0_off26_inb i h2 h3 h4 1) (off26_1_eq i h2 h3 h4)
     have eA261 := hS.aug _ _ (k0_off26_inb i h2 h3 h4 1) (off26_1_eq i h2 h3 h4)
     have eV27 := hS.v0 _ _ (k0_off27_inb i j hchk h2 h3 h4) (hj ▸ off27_eq ⟨_, hblk⟩)
     have eV290 := hS.v0 _ _ (k0_off29_inb i h2 h3 h4 0) (off29_0_eq i h2 h3 h4)
     have eV291 := hS.v0 _ _ (k0_off29_inb i h2 h3 h4 1) (off29_1_eq i h2 h3 h4)
     have eV28 := hS.v1 _ _ (k0_off28_inb i j hchk h2 h3 h4) (hj ▸ off28_eq ⟨_, hblk⟩)
     have eV300 := hS.v1 _ _ (k0_off30_inb i h2 h3 h4 0) (off30_0_eq i h2 h3 h4)
     have eV301 := hS.v1 _ _ (k0_off30_inb i h2 h3 h4 1) (off30_1_eq i h2 h3 h4)
     have hr := (c3 h2).mp h3
     have hr' : ¬ _ := fun h => h4 ((c4 h2 h3).mpr h)
     have eN : I.qi + 1 = 4 * ((i 2).val / 4) + 1 + 1 + 1 := by rw [hqi]; omega
     sl_exec
     sl_step
     iexists _, _, _, _
     iframe H3 H4 H5 H6 H7 H8 H9 H10
     ipureintro
     refine ⟨?_, h8⟩
     refine (readAt_cons_self _ _ _ _ _).trans ?_
     rw [Inp.out, eN]
     sl_unfold_words
     simp (disch := decide) only [↓ View.readCov_skip, ↓ View.readCov_cons_toLoadRect, ↓ rc_rows, ↓ rc_sum]
     simp only [p15, p29, p31, p44, p46, p60, p62, p135, p137, p151, p153, p167, p169, p190, p192, p206, p208, p229, p231, p16, p30, p32, p45, p47, p61, p63, p136, p138, p152, p154, p168, p170, p191, p193, p207, p209, p230, p232, p20, p139, p142, p194, p197, p233, p236, p33, p36, p48, p51, p64, p67, p155, p158, p171, p174, p210, p213, p21, p140, p143, p195, p198, p234, p237, p34, p37, p49, p52, p65, p68, p156, p159, p172, p175, p211, p214, p141, p196, p235, p35, p50, p66, p69, p157, p173, p176, p212, p39, p55, p146, p162, p178, p179, p201, p217, p240, p272, p273, p25, p40, p56, p147, p163, p186, p1, p202, p218, p225, p3, p241, p248, p5, p7, p8, p2, p4, p6, p264, p270, p271, e3, e2, Inp.M_succ, Inp.A_succ, Inp.B_succ, Inp.T_succ, Inp.blk_succ, qa_zero, qa_one]

   case neg =>
    have eK31 := hS.k _ _ (k0_off31_inb i h2 h3) (off31_eq i h2 h3)
    have eA31 := hS.aug _ _ (k0_off31_inb i h2 h3) (off31_eq i h2 h3)
    have eV32 := hS.v0 _ _ (k0_off32_inb i j hchk h2 h3) (hj ▸ off32_eq ⟨_, hblk⟩)
    have eV34 := hS.v0 _ _ (k0_off34_inb i h2 h3) (off34_eq i h2 h3)
    have eV33 := hS.v1 _ _ (k0_off33_inb i j hchk h2 h3) (hj ▸ off33_eq ⟨_, hblk⟩)
    have eV35 := hS.v1 _ _ (k0_off35_inb i h2 h3) (off35_eq i h2 h3)
    have hr := c2.mp h2
    have hr' : ¬ _ := fun h => h3 ((c3 h2).mpr h)
    have eN : I.qi + 1 = 4 * ((i 2).val / 4) + 1 + 1 := by rw [hqi]; omega
    sl_exec
    sl_step
    iexists _, _, _, _
    iframe H3 H4 H5 H6 H7 H8 H9 H10
    ipureintro
    refine ⟨?_, h8⟩
    refine (readAt_cons_self _ _ _ _ _).trans ?_
    rw [Inp.out, eN]
    sl_unfold_words
    simp (disch := decide) only [↓ View.readCov_skip, ↓ View.readCov_cons_toLoadRect, ↓ rc_rows, ↓ rc_sum]
    simp only [p15, p29, p31, p44, p46, p60, p62, p135, p137, p151, p153, p167, p169, p190, p192, p206, p208, p229, p231, p16, p30, p32, p45, p47, p61, p63, p136, p138, p152, p154, p168, p170, p191, p193, p207, p209, p230, p232, p20, p139, p142, p194, p197, p233, p236, p33, p36, p48, p51, p64, p67, p155, p158, p171, p174, p210, p213, p21, p140, p143, p195, p198, p234, p237, p34, p37, p49, p52, p65, p68, p156, p159, p172, p175, p211, p214, p141, p196, p235, p35, p50, p66, p69, p157, p173, p176, p212, p39, p55, p146, p162, p178, p179, p201, p217, p240, p272, p273, p25, p40, p56, p147, p163, p186, p1, p202, p218, p225, p3, p241, p248, p5, p7, p8, p2, p4, p6, p264, p270, p271, e3, e2, Inp.M_succ, Inp.A_succ, Inp.B_succ, Inp.T_succ, Inp.blk_succ, qa_zero, qa_one]

  case neg =>
    have eV36 := hS.v0 _ _ (k0_off36_inb i j hchk h2) (hj ▸ off36_eq ⟨_, hblk⟩)
    have eV37 := hS.v1 _ _ (k0_off37_inb i j hchk h2) (hj ▸ off37_eq ⟨_, hblk⟩)
    have hr : ¬ _ := fun h => h2 (c2.mpr h)
    have eN : I.qi + 1 = 4 * ((i 2).val / 4) + 1 := by rw [hqi]; omega
    sl_exec
    sl_step
    iexists _, _, _, _
    iframe H3 H4 H5 H6 H7 H8 H9 H10
    ipureintro
    refine ⟨?_, h8⟩
    refine (readAt_cons_self _ _ _ _ _).trans ?_
    rw [Inp.out, eN]
    sl_unfold_words
    simp (disch := decide) only [↓ View.readCov_skip, ↓ View.readCov_cons_toLoadRect, ↓ rc_rows, ↓ rc_sum]
    simp only [p15, p29, p31, p44, p46, p60, p62, p135, p137, p151, p153, p167, p169, p190, p192, p206, p208, p229, p231, p16, p30, p32, p45, p47, p61, p63, p136, p138, p152, p154, p168, p170, p191, p193, p207, p209, p230, p232, p20, p139, p142, p194, p197, p233, p236, p33, p36, p48, p51, p64, p67, p155, p158, p171, p174, p210, p213, p21, p140, p143, p195, p198, p234, p237, p34, p37, p49, p52, p65, p68, p156, p159, p172, p175, p211, p214, p141, p196, p235, p35, p50, p66, p69, p157, p173, p176, p212, p39, p55, p146, p162, p178, p179, p201, p217, p240, p272, p273, p25, p40, p56, p147, p163, p186, p1, p202, p218, p225, p3, p241, p248, p5, p7, p8, p2, p4, p6, p264, p270, p271, e3, e2, Inp.M_succ, Inp.A_succ, Inp.B_succ, Inp.T_succ, Inp.blk_succ, qa_zero, qa_one]

end Body

end Cert.Fox

end
-- ==== Proof.Run.lean ====
/-
  The attention call's run: every grid point's block of the result as a function of the blocks it reads, and from it the
  whole program's run.
-/
module

public import proofs.«01_k».proof.Proof.Body
public import proofs.«01_k».proof.Proof.Gen.KernelIdeal.Frame
public import Idealize.ShloMosaic.PureOps.BitExact

@[expose] public section

set_option maxRecDepth 16384

noncomputable section

namespace Cert.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- The key block, the bias block and the value block numbered `n` of what a grid point reads, where there is one. -/
def rowBlk (n : Nat) (x : FVec F S8192x128 .bf16) : FVec F S512x128 .bf16 :=
  if h : ∀ a, (![512 * n, 0] : Fin 2 → Nat) a + S512x128.size a ≤ S8192x128.size a then
    fun j => x ((Rect.unit (s := S8192x128) ![512 * n, 0] S512x128.size h).emb j)
  else fun _ => Scalar.ofBits .bf16 0x0000#16

def valBlk (r n : Nat) (x : FVec F S1x1x16x128x512 .bf16) : FVec F S1x1x1x64x512 .bf16 :=
  if h : ∀ a, (![0, 0, n, r, 0] : Fin 5 → Nat) a + S1x1x1x64x512.size a ≤ S1x1x16x128x512.size a then
    fun j => x ((Rect.unit (s := S1x1x16x128x512) ![0, 0, n, r, 0] S1x1x1x64x512.size h).emb j)
  else fun _ => Scalar.ofBits .bf16 0x0000#16

theorem rowBlk_eq (n : Nat) (x : FVec F S8192x128 .bf16) (h : ∀ a, (![512 * n, 0] : Fin 2 → Nat) a + S512x128.size a ≤ S8192x128.size a) :
    rowBlk n x = fun j => x ((Rect.unit (s := S8192x128) ![512 * n, 0] S512x128.size h).emb j) := dif_pos h
theorem valBlk_eq (r n : Nat) (x : FVec F S1x1x16x128x512 .bf16) (h : ∀ a, (![0, 0, n, r, 0] : Fin 5 → Nat) a + S1x1x1x64x512.size a ≤ S1x1x16x128x512.size a) :
    valBlk r n x = fun j => x ((Rect.unit (s := S1x1x16x128x512) ![0, 0, n, r, 0] S1x1x1x64x512.size h).emb j) := dif_pos h

/-- The recurrence's data from the four blocks a grid point reads. -/
def inpOf (qi : Nat) (x0 : FVec F S512x128 .bf16) (x1 x2 : FVec F S8192x128 .bf16) (x3 : FVec F S1x1x16x128x512 .bf16) : Inp F where
  q := x0
  k n := rowBlk n x1
  aug n := rowBlk n x2
  v hh n := match hh with
    | 0 => valBlk 0 n x3
    | 1 => valBlk 64 n x3
  mask := k0_pay254
  qi := qi

theorem readAt_unread {sp : Space} {S : Shape} {e : EltTy} (M : Memref sig .tc sp S e) (h : M.IsWhole) (x : S.Idx → Elt F e) (r : Rect S) :
    M.view.readAt (Elt F) r.toLoadRect (h.unread x) = fun j => x (r.emb j) := by
  funext j
  rw [View.readAt_apply, h.read_unread]
  rfl

theorem src_of (c : Dev nD) (qi : Nat) (x0 : FVec F S512x128 .bf16) (x1 x2 : FVec F S8192x128 .bf16) (x3 : FVec F S1x1x16x128x512 .bf16)
    (arg4 arg5 : Memref sig .tc .vmem S8192x128 .bf16) (h4 : arg4.IsWhole) (h5 : arg5.IsWhole) (arg6 : Memref sig .tc .vmem S1x1x16x128x512 .bf16) (h6 : arg6.IsWhole) :
    Src c (inpOf qi x0 x1 x2 x3) arg4 arg5 arg6 (h4.unread x1) (h5.unread x2) (h6.unread x3) where
  k n off hin e := by subst e; rw [readAt_unread]; exact (rowBlk_eq n x1 hin).symm
  aug n off hin e := by subst e; rw [readAt_unread]; exact (rowBlk_eq n x2 hin).symm
  v0 n off hin e := by subst e; rw [readAt_unread]; exact (valBlk_eq 0 n x3 hin).symm
  v1 n off hin e := by subst e; rw [readAt_unread]; exact (valBlk_eq 64 n x3 hin).symm

theorem emb_whole {S : Shape} (off : Fin S.rank → Nat) (h0 : ∀ a, off a = 0) (h : ∀ a, off a + S.size a ≤ S.size a) (j : S.Idx) :
    (Rect.unit (s := S) off S.size h).emb j = j := by
  funext a; apply Fin.ext; simp [Rect.emb, LoadRect.idx, Rect.unit, h0 a]

theorem whole2 (a : Fin 2) : (![0, 0] : Fin 2 → Nat) a = 0 := by fin_cases a <;> rfl

theorem read_of_readAt (M : Memref sig .tc .vmem S512x128 .bf16) (f : M.view.ty.Contents (Elt F)) (X : FVec F S512x128 .bf16)
    (h : M.view.readAt (Elt F) (Rect.unit (s := S512x128) ![0, 0] S512x128.size inb_S512x128_S512x128_0_0).toLoadRect f = X) : M.view.read (Elt F) f = X := by
  rw [← h]; funext j; rw [View.readAt_apply]
  exact congrArg _ (emb_whole (S := S512x128) ![0, 0] whole2 inb_S512x128_S512x128_0_0 j).symm

variable (m : (ℓ : Loc nD τ sig) → Buf (Elt F) ℓ) (ρ : Dev nD → PrngReg)

/-- What the point `t` reads. -/
def inpAt (c : Dev nD) (t : Fin cfg0.N) : Inp F :=
  inpOf (grid0.coords t 2).val (iblk m c 0 t) (iblk m c 1 t) (iblk m c 2 t) (iblk m c 3 t)

/-- The scratch buffers between points: the causal mask is in its buffer once the first query block has been through. -/
def mid (c : Dev nD) (n : Nat) : sProp 𝕄 :=
  iprop(((∃ f, (((c : Thread nD τ).loc cc0_scratch0) ↦{fullShare} f) ∗
      ⌜n % 16 ≠ 0 → (Memref.whole cc0_scratch0 : Memref sig .tc .vmem S512x512 .f32).view.readAt (Elt F) (Rect.unit (s := S512x512) ![0, 0] S512x512.size inb_S512x512_S512x512_0_0).toLoadRect f = k0_pay254⌝) ∗
    (∃ f : Buf (Elt F) ((c : Thread nD τ).loc cc0_scratch1), ((c : Thread nD τ).loc cc0_scratch1) ↦{fullShare} f) ∗
     (∃ f : Buf (Elt F) ((c : Thread nD τ).loc cc0_scratch2), ((c : Thread nD τ).loc cc0_scratch2) ↦{fullShare} f)) ∗
    ∃ r, prngReg c r)

/-- The pipeline's data: each input's buffer keeps its block, the result's is left at the block the recurrence gives. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (inpAt m c t).out
  Φ t := mid c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (inpAt m c t).out := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem Φ_at (c : Dev nD) (t : Fin cfg0.N) : (dats m 0 c).Φ t.castSucc = mid c t.val := by
  dsimp only [dats]; exact Pipeline.Dat.Φ_castSucc (fun n _ => mid c n) t
theorem Φ_next (c : Dev nD) (t : Fin cfg0.N) : (dats m 0 c).Φ t.succ = mid c (t.val + 1) := rfl

theorem coords2 : ∀ t : Fin cfg0.N, (grid0.coords t 2).val = t.val % 16 := by decide +kernel

theorem idle4 : ∀ i : grid0.Coords, idle0 4 i = false := by decide +kernel

/-- One grid point on blocks held whole. -/
theorem point (c : Dev nD) (t : Fin cfg0.N)
    (arg3 : Memref sig .tc .vmem S512x128 .bf16) (harg3 : arg3.IsWhole) (arg4 : Memref sig .tc .vmem S8192x128 .bf16) (harg4 : arg4.IsWhole)
    (arg5 : Memref sig .tc .vmem S8192x128 .bf16) (harg5 : arg5.IsWhole) (arg6 : Memref sig .tc .vmem S1x1x16x128x512 .bf16) (harg6 : arg6.IsWhole)
    (arg7 : Memref sig .tc .vmem S512x128 .bf16) (harg7 : arg7.IsWhole)
    (x0 : FVec F S512x128 .bf16) (x1 x2 : FVec F S8192x128 .bf16) (x3 : FVec F S1x1x16x128x512 .bf16) (d : FVec F S512x128 .bf16) :
    iprop(mid c t.val ∗ owns (c : Thread nD τ) arg3 fullShare x0 ∗ owns (c : Thread nD τ) arg4 fullShare x1 ∗ owns (c : Thread nD τ) arg5 fullShare x2
      ∗ owns (c : Thread nD τ) arg6 fullShare x3 ∗ owns (c : Thread nD τ) arg7 fullShare d)
    ⊢ wp frame (wpE (defs₀ (F := F)) Variants.none c none) Set.univ
        (cc0_fox_attn (F := F) (grid0.coords t) arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _))
        fun _ => iprop(mid c (t.val + 1) ∗ owns (c : Thread nD τ) arg3 fullShare x0 ∗ owns (c : Thread nD τ) arg4 fullShare x1 ∗ owns (c : Thread nD τ) arg5 fullShare x2
      ∗ owns (c : Thread nD τ) arg6 fullShare x3 ∗ owns (c : Thread nD τ) arg7 fullShare (inpOf (grid0.coords t 2).val x0 x1 x2 x3).out) := by
  unfold owns mid
  rw [harg3.set_eq_univ, harg4.set_eq_univ, harg5.set_eq_univ, harg6.set_eq_univ, harg7.set_eq_univ]
  iintro ⟨⟨⟨⟨%f8, H8, %h8⟩, ⟨%f9, H9⟩, ⟨%f10, H10⟩⟩, Hr⟩, ⟨%f3, %hf3, H3⟩, ⟨%f4, %hf4, H4⟩, ⟨%f5, %hf5, H5⟩, ⟨%f6, %hf6, H6⟩, ⟨%f7, -, H7⟩⟩
  have hq : arg3.view.readAt (Elt F) (Rect.unit (s := S512x128) ![0, 0] S512x128.size inb_S512x128_S512x128_0_0).toLoadRect (harg3.unread x0) = (inpOf (grid0.coords t 2).val x0 x1 x2 x3).q := by
    rw [readAt_unread]; funext j; rw [emb_whole _ whole2]; rfl
  have hm : (grid0.coords t 2).val ≠ 0 → (Memref.whole cc0_scratch0 : Memref sig .tc .vmem S512x512 .f32).view.readAt (Elt F) (Rect.unit (s := S512x512) ![0, 0] S512x512.size inb_S512x512_S512x512_0_0).toLoadRect f8 = k0_pay254 :=
    fun h => h8 (by rw [← coords2]; exact h)
  obtain rfl := harg3.eq_unread hf3; obtain rfl := harg4.eq_unread hf4; obtain rfl := harg5.eq_unread hf5; obtain rfl := harg6.eq_unread hf6
  iapply wp_wand_r
  isplitl [H3 H4 H5 H6 H7 H8 H9 H10]
  · iapply (body0 c (grid0.coords t) arg3 harg3 arg4 harg4 arg5 harg5 arg6 harg6 arg7 harg7 (Memref.whole cc0_scratch0) (Memref.isWhole_whole _) (Memref.whole cc0_scratch1) (Memref.isWhole_whole _) (Memref.whole cc0_scratch2) (Memref.isWhole_whole _)
      (inpOf (grid0.coords t 2).val x0 x1 x2 x3) rfl rfl (harg3.unread x0) (harg4.unread x1) (harg5.unread x2) (harg6.unread x3) f7 f8 f9 f10 hq hm (src_of c _ x0 x1 x2 x3 arg4 arg5 harg4 harg5 arg6 harg6))
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro %_ ⟨%g7, %g8, %g9, %g10, H3, H4, H5, H6, H7, H8, H9, H10, %e7, %e8⟩
    isplitl [H8 H9 H10 Hr]
    · isplitr [Hr]; swap; · iexact Hr
      isplitl [H8]
      · iexists g8; isplitl [H8]; · iexact H8
        ipureintro; exact fun _ => e8
      isplitl [H9]; · iexists g9; iexact H9
      iexists g10; iexact H10
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    iexists g7; isplitr; swap; · iexact H7
    ipureintro; exact read_of_readAt arg7 g7 _ e7

theorem body_obligation (c : Dev nD) : BodyObligation (dats (F := F) m 0 c) (defs₀ (F := F)) Variants.none () Set.univ := fun t => by
  rw [bigSep_W0, bigSep_W0]
  sl_whnfR [defs₀, Defs.onTc]
  simp only [before0_0, before0_1, before0_2, before0_3]
  rw [show (dats m 0 c).owesAt () t.succ = (dats m 0 c).owesAt () t.castSucc from rfl, Φ_at, Φ_next, after0_0, after0_1, after0_2, after0_3, after0_4]
  unfold inpAt
  iintro ⟨HΦ, Ho, ⟨%d0, H0⟩, ⟨%d1, H1⟩, ⟨%d2, H2⟩, ⟨%d3, H3⟩, ⟨%d4, H4⟩⟩
  iapply wp_wand_r
  isplitl [HΦ H0 H1 H2 H3 H4]
  · iapply (point c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))
      (iblk m c 0 t) (iblk m c 1 t) (iblk m c 2 t) (iblk m c 3 t) _)
    isplitl [HΦ]; · iexact HΦ
    isplitl [H0]; · iexact H0
    isplitl [H1]; · iexact H1
    isplitl [H2]; · iexact H2
    isplitl [H3]; · iexact H3
    iexact H4
  rw [idle4]
  iintro %_ ⟨HΦ, H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem hin (c : Dev nD) : Pipeline.ΦA spec0 c ⊢ (dats (F := F) m 0 c).Φ 0 := by
  rw [show (dats (F := F) m 0 c).Φ 0 = mid c 0 from rfl]
  unfold Pipeline.ΦA mid
  rw [scopedRest0_eq]
  iintro ⟨⟨⟨%f, H0⟩, H1, H2⟩, Hr⟩
  isplitr [Hr]; swap; · iexact Hr
  isplitl [H0]
  · iexists f; isplitl [H0]; · iexact H0
    ipureintro; exact fun h => absurd rfl h
  isplitl [H1]; · iexact H1
  iexact H2

theorem hout (c : Dev nD) : (dats (F := F) m 0 c).Φ (Fin.last cfg0.N) ⊢ Pipeline.ΦA spec0 c := by
  rw [show (dats (F := F) m 0 c).Φ (Fin.last cfg0.N) = mid c (Fin.last cfg0.N).val from rfl]
  unfold Pipeline.ΦA mid
  rw [scopedRest0_eq]
  iintro ⟨⟨⟨%f, H0, -⟩, H1, H2⟩, Hr⟩
  isplitr [Hr]; swap; · iexact Hr
  isplitl [H0]; · iexists f; iexact H0
  isplitl [H1]; · iexact H1
  iexact H2

set_option backward.isDefEq.respectTransparency.types false in
/-- From any memory with zero counters the program ends, each array at what the pipeline's data give it and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := fun _ _ => rfl) (hin := hin m) (hout := hout m)

end Cert.Fox

end
-- ==== Proof.Steps.lean ====
/-
  The recurrence's steps read at an index over the extended reals.
-/
module

public import proofs.«01_k».proof.Proof.Model
public import Idealize.ShloMosaic.Lib.Pointwise
public import Idealize.ShloMosaic.PureOps.Ideal
public import Idealize.ShloMosaic.Lib.WordCmp

@[expose] public section

set_option maxRecDepth 16384

noncomputable section

namespace Cert.Fox

open Cert.KernelIdeal Cert.KernelIdeal.Gen
open Idealize.ShloMosaic Idealize.ShloMosaic.TcCoe Idealize.SL.Sem

theorem ofBool_one (b : Bool) : (BitVec.ofBool b = (1 : BitVec 1)) = (b = true) := by cases b <;> simp

theorem ninf : Ideal.ofBits .f32 0xFF800000#32 = (⊥ : EReal) := by
  simp [Ideal.ofBits, Ideal.ieee]

theorem pay17_at (a b : FVec Ideal S1x512 .f32) (q : Fin 512) : k0_pay17 a b (ix2 0 q) = max (a (ix2 0 q)) (b (ix2 0 q)) := by
  pointwise [k0_pay17]

theorem pay18_at (a b : FVec Ideal S1x512 .f32) (q : Fin 512) :
    k0_pay18 a b (ix2 0 q) = Ideal.exp2 (a (ix2 0 q) - max (a (ix2 0 q)) (b (ix2 0 q))) := by
  pointwise [k0_pay18, k0_pay17]
  rfl

theorem pay19_at (a b : FVec Ideal S1x512 .f32) (t : FVec Ideal S1x1x512x512 .f32) (k q : Fin 512) :
    k0_pay19 a b t (ix2 k q) = Ideal.exp2 (t (ix4 0 0 k q) - max (a (ix2 0 q)) (b (ix2 0 q))) := by
  pointwise [k0_pay19, k0_pay17]
  rfl

theorem pay14_at (qa : FVec Ideal S256x512 .bf16) (kb ab : FVec Ideal S512x128 .bf16) (q : Fin 512) :
    k0_pay14 qa kb ab (ix2 0 q) = Finset.univ.fold max ⊥ fun k : Fin 512 => k0_pay13 qa kb ab (ix4 0 0 k q) := by
  pointwise [k0_pay14, k0_pay13]
  rw [ninf]

theorem pay268_at (qa : FVec Ideal S256x512 .bf16) (kb ab : FVec Ideal S512x128 .bf16) (mk : FVec Ideal S512x512 .f32) (q : Fin 512) :
    k0_pay268 qa kb ab mk (ix2 0 q) = Finset.univ.fold max ⊥ fun k : Fin 512 => k0_pay267 qa kb ab mk (ix4 0 0 k q) := by
  pointwise [k0_pay268, k0_pay267]
  rw [ninf]

theorem pay23_at (al : FVec Ideal S1x512 .f32) (p : FVec Ideal S512x512 .bf16) (v : FVec Ideal S1x1x1x64x512 .bf16) (acc : FVec Ideal S1x80x512 .f32) (r : Fin 64) (q : Fin 512) :
    k0_pay23 al p v acc (ix3 0 ⟨r.val, by omega⟩ q) = al (ix2 0 q) * acc (ix3 0 ⟨r.val, by omega⟩ q) + ∑ k : Fin 512, v (ix5 0 0 0 r k) * p (ix2 k q) := by
  pointwise [k0_pay23]

theorem pay23_sum (al : FVec Ideal S1x512 .f32) (p : FVec Ideal S512x512 .bf16) (v : FVec Ideal S1x1x1x64x512 .bf16) (acc : FVec Ideal S1x80x512 .f32) (q : Fin 512) :
    k0_pay23 al p v acc (ix3 0 ⟨64, by omega⟩ q) = al (ix2 0 q) * acc (ix3 0 ⟨64, by omega⟩ q) + ∑ k : Fin 512, p (ix2 k q) := by
  pointwise [k0_pay23, k0_pay22]

theorem pay9_at (a : FVec Ideal S1x64x512 .f32) (l : FVec Ideal S1x1x512 .f32) (a' : FVec Ideal S1x64x512 .f32) (l' : FVec Ideal S1x1x512 .f32) (q : Fin 512) (r : Fin 128) :
    k0_pay9 (F := Ideal) a l a' l' (ix2 q r) = if h : r.val < 64 then Ideal.div (a (ix3 0 ⟨r.val, h⟩ q)) (l (ix3 0 0 q)) else Ideal.div (a' (ix3 0 ⟨r.val - 64, by omega⟩ q)) (l' (ix3 0 0 q)) := by
  pointwise [k0_pay9]

theorem pay254_at (k q : Fin 512) : k0_pay254 (F := Ideal) (ix2 k q) = if k.val ≤ q.val then 0 else ⊥ := by
  pointwise [k0_pay254]
  have hk := k.isLt
  have hq := q.isLt
  have e : IntOp.cmpi CmpIPredicate.sle (BitVec.ofNat 32 k.val) (BitVec.ofNat 32 q.val) = BitVec.ofBool (decide (k.val ≤ q.val)) :=
    WordCmp.cmpi_sle_ofNat (by omega) (by omega)
  rw [ninf, e]
  simp only [Scalar.select, ofBool_one, decide_eq_true_eq]

theorem pay256_at (x : FVec Ideal S512x128 .bf16) (r : Fin 256) (q : Fin 512) :
    k0_pay256 x (ix2 r q) = if h : r.val < 128 then (if r.val < 64 then x (ix2 q ⟨r.val, h⟩) else 0) else if r.val < 131 then 1 else 0 := by
  pointwise [k0_pay256, k0_pay255]
  have hr := r.isLt
  split
  all_goals
    rw [WordCmp.cmpi_sge_ofNat (by omega) (by omega), WordCmp.cmpi_slt_ofNat (by omega) (by omega)]
    simp only [Scalar.select, WordCmp.andi_ofBool, ofBool_one, Bool.and_eq_true, decide_eq_true_eq]
    split_ifs <;> first | rfl | (exfalso; omega)

theorem pay261_at (x : FVec Ideal S512x128 .bf16) (r : Fin 256) (q : Fin 512) :
    k0_pay261 (k0_pay257 x) k0_pay258 (k0_pay259 (F := Ideal)) (k0_pay260 (F := Ideal)) (ix2 r q) = if h : r.val < 128 then (if 64 ≤ r.val then x (ix2 q ⟨r.val, h⟩) else 0) else if 131 ≤ r.val ∧ r.val < 134 then 1 else 0 := by
  pointwise [k0_pay261, k0_pay257, k0_pay258, k0_pay259, k0_pay260, k0_pay255]
  have hr := r.isLt
  split
  all_goals
    rw [WordCmp.cmpi_sge_ofNat (by omega) (by omega), WordCmp.cmpi_slt_ofNat (by omega) (by omega)]
    simp only [Scalar.select, WordCmp.andi_ofBool, ofBool_one, Bool.and_eq_true, decide_eq_true_eq]
    split_ifs <;> first | rfl | (exfalso; omega)

theorem pay13_at (qa : FVec Ideal S256x512 .bf16) (kb ab : FVec Ideal S512x128 .bf16) (k q : Fin 512) :
    k0_pay13 qa kb ab (ix4 0 0 k q) = (∑ j : Fin 128, kb (ix2 k j) * qa (ix2 ⟨j.val, by omega⟩ q)) + ∑ j : Fin 128, ab (ix2 k j) * qa (ix2 ⟨128 + j.val, by omega⟩ q) := by
  pointwise [k0_pay13, k0_pay11, k0_pay10]

theorem pay267_at (qa : FVec Ideal S256x512 .bf16) (kb ab : FVec Ideal S512x128 .bf16) (mk : FVec Ideal S512x512 .f32) (k q : Fin 512) :
    k0_pay267 qa kb ab mk (ix4 0 0 k q) = (∑ j : Fin 128, kb (ix2 k j) * qa (ix2 ⟨j.val, by omega⟩ q)) + (∑ j : Fin 128, ab (ix2 k j) * qa (ix2 ⟨128 + j.val, by omega⟩ q)) + mk (ix2 k q) := by
  pointwise [k0_pay267, k0_pay266, k0_pay265]

end Cert.Fox

end
-- ==== Proof.Soft.lean ====
/-
  The running softmax over the extended reals.
-/
module

public import Idealize.ShloMosaic.PureOps.Ideal

@[expose] public section

noncomputable section

namespace Cert.Fox

open Idealize.ShloMosaic

/-- A nonnegative real factor goes through a finite sum, whatever the summands. -/
theorem mul_sum_real {ι : Type} (s : Finset ι) (a : EReal) (h0 : 0 ≤ a) (h1 : a ≠ ⊤) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

theorem exp2_nonneg (x : EReal) : 0 ≤ Ideal.exp2 x := by
  induction x using EReal.rec with
  | bot => exact le_refl (0 : EReal)
  | top => exact (le_top : (0 : EReal) ≤ ⊤)
  | coe r => exact EReal.coe_nonneg.mpr (Real.rpow_nonneg (by norm_num) r)

theorem exp2_coe (r : ℝ) : Ideal.exp2 (r : EReal) = ((2 : ℝ) ^ r : ℝ) := rfl

theorem exp2_bot : Ideal.exp2 ⊥ = 0 := rfl

/-- Rescaling from the running maximum `a` to the later one `b`. -/
theorem exp2_step (s : EReal) (hs : s ≠ ⊤) (a b : ℝ) : Ideal.exp2 ((a : EReal) - b) * Ideal.exp2 (s - a) = Ideal.exp2 (s - b) := by
  induction s using EReal.rec with
  | bot =>
    rw [show (⊥ : EReal) - (a : EReal) = ⊥ from EReal.bot_sub _, show (⊥ : EReal) - (b : EReal) = ⊥ from EReal.bot_sub _, exp2_bot, mul_zero]
  | top => exact absurd rfl hs
  | coe r =>
    rw [← EReal.coe_sub, ← EReal.coe_sub, ← EReal.coe_sub, exp2_coe, exp2_coe, exp2_coe, ← EReal.coe_mul, ← Real.rpow_add (by norm_num)]
    congr 2; ring

/-- The exponential base two is the power of two. -/
theorem pow_two (x : EReal) (hx : x ≠ ⊤) : Ideal.pow ((2 : ℝ) : EReal) x = Ideal.exp2 x := by
  induction x using EReal.rec with
  | bot => rw [exp2_bot]; rw [Ideal.pow_coe_bot]; norm_num
  | top => exact absurd rfl hx
  | coe r => rw [exp2_coe]; exact Ideal.pow_coe_coe ..

theorem ofBits_two : Ideal.ofBits .f32 0x40000000#32 = ((2 : ℝ) : EReal) := by
  have e : ((8388608 : ℝ) * ((2 : ℝ) ^ 22)⁻¹) = 2 := by norm_num
  simp [Ideal.ofBits, Ideal.ieee]
  rw [← EReal.coe_mul, e]

/-- The recurrence of a running softmax over blocks of `T` keys: `M` the running maximum, `A` the running weighted sum
    (rescaled to the current maximum), `s n j` the logit of key `j` of the `n`th block met, `v n j` its value. -/
theorem running {T : Nat} (s v : ℕ → Fin T → EReal) (M A : ℕ → EReal)
    (hM0 : M 0 = ⊥) (hA0 : A 0 = 0)
    (hM : ∀ n, M (n + 1) = max (M n) (Finset.univ.fold max ⊥ (s n)))
    (hA : ∀ n, A (n + 1) = Ideal.exp2 (M n - M (n + 1)) * A n + ∑ j, v n j * Ideal.exp2 (s n j - M (n + 1)))
    (N : ℕ) (hs : ∀ n, n ≤ N → ∀ j, s n j ≠ ⊤) (h0 : ∃ j, s 0 j ≠ ⊥) (n : ℕ) (hn : n ≤ N) :
    (∃ r : ℝ, M (n + 1) = r) ∧ (∀ x, M (n + 1) ≤ x ↔ ∀ i, i ≤ n → ∀ j, s i j ≤ x) ∧
    A (n + 1) = ∑ i ∈ Finset.range (n + 1), ∑ j, v i j * Ideal.exp2 (s i j - M (n + 1)) := by
  have fold_le (n : ℕ) (x : EReal) : Finset.univ.fold max ⊥ (s n) ≤ x ↔ ∀ j, s n j ≤ x := by
    rw [Finset.fold_max_le]; simp
  have fold_top (n : ℕ) (hn : n ≤ N) : Finset.univ.fold max ⊥ (s n) < ⊤ := by
    rw [Finset.fold_max_lt]; exact ⟨bot_lt_top, fun j _ => lt_top_iff_ne_top.mpr (hs n hn j)⟩
  induction n with
  | zero =>
    have e : M (0 + 1) = Finset.univ.fold max ⊥ (s 0) := by rw [hM, hM0]; exact max_eq_right bot_le
    refine ⟨?_, ?_, ?_⟩
    · obtain ⟨j, hj⟩ := h0
      refine ⟨(M (0 + 1)).toReal, (EReal.coe_toReal ?_ ?_).symm⟩
      · rw [e]; exact (fold_top 0 hn).ne
      · rw [e]; intro hb
        have := (fold_le 0 ⊥).mp hb.le j
        exact hj (le_bot_iff.mp this)
    · intro x; rw [e, fold_le]
      exact ⟨fun h i hi j => by obtain rfl := Nat.le_zero.mp hi; exact h j, fun h j => h 0 le_rfl j⟩
    · rw [hA, hA0, mul_zero, zero_add]; simp
  | succ n ih =>
    obtain ⟨⟨a, ha⟩, hle, hsum⟩ := ih (by omega)
    have hb : ∃ b : ℝ, M (n + 1 + 1) = b := by
      refine ⟨(M (n + 1 + 1)).toReal, (EReal.coe_toReal ?_ ?_).symm⟩
      · rw [hM]; exact (max_lt (by rw [ha]; exact EReal.coe_lt_top a) (fold_top _ hn)).ne
      · rw [hM]; intro hb
        have := (le_max_left (M (n + 1)) _).trans hb.le
        rw [ha] at this; exact absurd (le_bot_iff.mp this) (EReal.coe_ne_bot a)
    refine ⟨hb, ?_, ?_⟩
    · intro x; rw [hM, max_le_iff, hle, fold_le]
      refine ⟨fun h i hi j => ?_, fun h => ⟨fun i hi => h i (by omega), h (n + 1) le_rfl⟩⟩
      rcases Nat.lt_or_ge i (n + 1) with h' | h'
      · exact h.1 i (by omega) j
      · obtain rfl : i = n + 1 := by omega
        exact h.2 j
    · obtain ⟨b, hb⟩ := hb
      have hx : Ideal.exp2 (M (n + 1) - M (n + 1 + 1)) ≠ ⊤ := by
        rw [ha, hb, ← EReal.coe_sub, exp2_coe]; exact EReal.coe_ne_top _
      rw [hA, hsum, Finset.sum_range_succ _ (n + 1), mul_sum_real _ _ (exp2_nonneg _) hx]
      congr 1
      refine Finset.sum_congr rfl fun i hi => ?_
      have hi' : i ≤ N := by have := Finset.mem_range.mp hi; omega
      rw [mul_sum_real _ _ (exp2_nonneg _) hx]
      refine Finset.sum_congr rfl fun j _ => ?_
      rw [ha, hb, ← exp2_step (s i j) (hs i hi' j) a b, mul_left_comm]

/-- The order in which the key blocks are taken: block `b` first, then the blocks before it. -/
def order (b : ℕ) : ℕ → ℕ
  | 0 => b
  | n + 1 => n

theorem sum_order (b : ℕ) (f : ℕ → EReal) : ∑ n ∈ Finset.range (b + 1), f (order b n) = ∑ n ∈ Finset.range (b + 1), f n := by
  rw [Finset.sum_range_succ', Finset.sum_range_succ]; rfl

/-- A sum over the keys by blocks. -/
theorem sum_blocks (f : ℕ → EReal) : ∑ k : Fin 8192, f k.val = ∑ a ∈ Finset.range 16, ∑ j : Fin 512, f (512 * a + j.val) := by
  rw [← Equiv.sum_comp (finProdFinEquiv : Fin 16 × Fin 512 ≃ Fin (16 * 512)) (fun k : Fin 8192 => f k.val), Fintype.sum_prod_type,
    ← Fin.sum_univ_eq_sum_range (fun a => ∑ j : Fin 512, f (512 * a + j.val))]
  refine Finset.sum_congr rfl fun a _ => Finset.sum_congr rfl fun j _ => ?_
  congr 1
  simp [finProdFinEquiv, Nat.add_comm]

/-- With a positive real divisor, dividing each weight is dividing the weighted sum. -/
theorem div_sum {ι : Type} (s : Finset ι) (l : ℝ) (hl : 0 < l) (v e : ι → EReal) :
    Ideal.div (∑ i ∈ s, v i * e i) l = ∑ i ∈ s, v i * Ideal.div (e i) l := by
  have hd (x : EReal) : Ideal.div x l = ((l⁻¹ : ℝ) : EReal) * x := by
    have hl0 : (l : EReal) ≠ 0 := by exact_mod_cast hl.ne'
    rw [Ideal.div, if_neg hl0, ← EReal.coe_inv, mul_comm]
  rw [hd, mul_sum_real _ _ (EReal.coe_nonneg.mpr (inv_nonneg.mpr hl.le)) (EReal.coe_ne_top _)]
  refine Finset.sum_congr rfl fun i _ => ?_
  rw [hd, mul_left_comm]

theorem sum_ne_top {ι : Type} (s : Finset ι) (f : ι → EReal) (h : ∀ i ∈ s, f i ≠ ⊤) : ∑ i ∈ s, f i ≠ ⊤ := by
  classical
  induction s using Finset.induction_on with
  | empty => simp
  | insert i s hi ih =>
    rw [Finset.sum_insert hi]
    exact EReal.add_ne_top (h i (Finset.mem_insert_self ..)) (ih fun j hj => h j (Finset.mem_insert_of_mem hj))

/-- Causal attention of one query, from the recurrence: the accumulated values over the accumulated weights are the values
    weighted by the softmax of the logits. `ms k` is the masked logit of key `k`, `vs k` its value. -/
theorem attend (qi : ℕ) (hqi : qi < 16) (ms vs : ℕ → EReal) (hbot : ∀ k, 512 * (qi + 1) ≤ k → ms k = ⊥) (htop : ∀ k, ms k ≠ ⊤)
    (hne : ∃ j : Fin 512, ms (512 * qi + j.val) ≠ ⊥)
    (s v : ℕ → Fin 512 → EReal) (hs : ∀ n, n ≤ qi → ∀ j, s n j = ms (512 * order qi n + j.val)) (hv : ∀ n, n ≤ qi → ∀ j, v n j = vs (512 * order qi n + j.val))
    (M A L : ℕ → EReal) (hM0 : M 0 = ⊥) (hA0 : A 0 = 0) (hL0 : L 0 = 0)
    (hM : ∀ n, M (n + 1) = max (M n) (Finset.univ.fold max ⊥ (s n)))
    (hA : ∀ n, A (n + 1) = Ideal.exp2 (M n - M (n + 1)) * A n + ∑ j, v n j * Ideal.exp2 (s n j - M (n + 1)))
    (hL : ∀ n, L (n + 1) = Ideal.exp2 (M n - M (n + 1)) * L n + ∑ j, Ideal.exp2 (s n j - M (n + 1)))
    (mx : EReal) (hmx : mx = Finset.univ.fold max ⊥ fun k : Fin 8192 => ms k.val) :
    Ideal.div (A (qi + 1)) (L (qi + 1)) = ∑ k : Fin 8192, vs k.val * Ideal.div (Ideal.exp2 (ms k.val - mx)) (∑ k : Fin 8192, Ideal.exp2 (ms k.val - mx)) := by
  have hst : ∀ n, n ≤ qi → ∀ j, s n j ≠ ⊤ := fun n hn j => by rw [hs n hn]; exact htop _
  have hs0 : ∃ j, s 0 j ≠ ⊥ := hne.imp fun j hj => by rw [hs 0 (Nat.zero_le _)]; exact hj
  obtain ⟨⟨r, hr⟩, hle, hAs⟩ := running s v M A hM0 hA0 hM hA qi hst hs0 qi le_rfl
  obtain ⟨-, -, hLs⟩ := running s (fun _ _ => 1) M L hM0 hL0 hM (fun n => by simp only [one_mul]; exact hL n) qi hst hs0 qi le_rfl
  have hmM : mx = M (qi + 1) := by
    refine eq_of_forall_ge_iff fun x => ?_
    rw [hle, hmx, Finset.fold_max_le]
    constructor
    · intro h i hi j
      rw [hs i hi]
      by_cases hk : 512 * order qi i + j.val < 8192
      · exact h.2 ⟨_, hk⟩ (Finset.mem_univ _)
      · rw [hbot _ (by omega)]; exact bot_le
    · intro h
      refine ⟨bot_le, fun k _ => ?_⟩
      by_cases hk : 512 * (qi + 1) ≤ k.val
      · rw [hbot _ hk]; exact bot_le
      · have hj : k.val % 512 < 512 := Nat.mod_lt _ (by norm_num)
        by_cases hd : k.val / 512 = qi
        · have := h 0 (Nat.zero_le _) ⟨k.val % 512, hj⟩
          rw [hs 0 (Nat.zero_le _)] at this
          have e : 512 * order qi 0 + k.val % 512 = k.val := by rw [order]; omega
          simpa only [e] using this
        · have hn : k.val / 512 + 1 ≤ qi := by omega
          have := h _ hn ⟨k.val % 512, hj⟩
          rw [hs _ hn] at this
          have e : 512 * order qi (k.val / 512 + 1) + k.val % 512 = k.val := by rw [order]; omega
          simpa only [e] using this
  have hsum (w : ℕ → EReal) (u : ℕ → Fin 512 → EReal) (hu : ∀ n, n ≤ qi → ∀ j, u n j = w (512 * order qi n + j.val)) :
      ∑ i ∈ Finset.range (qi + 1), ∑ j, u i j * Ideal.exp2 (s i j - M (qi + 1)) = ∑ k : Fin 8192, w k.val * Ideal.exp2 (ms k.val - mx) := by
    rw [sum_blocks (fun k => w k * Ideal.exp2 (ms k - mx)), hmM]
    have h1 : ∀ i ∈ Finset.range (qi + 1), ∑ j, u i j * Ideal.exp2 (s i j - M (qi + 1))
        = (fun a => ∑ j : Fin 512, w (512 * a + j.val) * Ideal.exp2 (ms (512 * a + j.val) - M (qi + 1))) (order qi i) := fun i hi => by
      have hi' : i ≤ qi := by have := Finset.mem_range.mp hi; omega
      exact Finset.sum_congr rfl fun j _ => by rw [hu i hi', hs i hi']
    refine (Finset.sum_congr rfl h1).trans ((sum_order qi (fun a => ∑ j : Fin 512, w (512 * a + j.val) * Ideal.exp2 (ms (512 * a + j.val) - M (qi + 1)))).trans ?_)
    refine Finset.sum_subset (Finset.range_mono (by omega)) fun a _ ha => ?_
    have ha' : qi + 1 ≤ a := by by_contra h; exact ha (Finset.mem_range.mpr (by omega))
    refine Finset.sum_eq_zero fun j _ => ?_
    rw [hbot _ (by have := Nat.mul_le_mul_left 512 ha'; omega), EReal.bot_sub, exp2_bot, mul_zero]
  have hne_top : ∀ k : ℕ, ms k - mx ≠ ⊤ := fun k => by
    rw [hmM, hr]
    have h := htop k
    revert h
    induction ms k using EReal.rec with
    | bot => intro _; rw [EReal.bot_sub]; exact bot_ne_top
    | top => intro h; exact absurd rfl h
    | coe x => intro _; rw [← EReal.coe_sub]; exact EReal.coe_ne_top _
  have hexp : ∀ x : EReal, x ≠ ⊤ → Ideal.exp2 x ≠ ⊤ := fun x hx => by
    induction x using EReal.rec with
    | bot => rw [exp2_bot]; exact EReal.zero_ne_top
    | top => exact absurd rfl hx
    | coe x => exact EReal.coe_ne_top _
  have hl : ∃ l : ℝ, 0 < l ∧ ∑ k : Fin 8192, Ideal.exp2 (ms k.val - mx) = l := by
    have ht : ∑ k : Fin 8192, Ideal.exp2 (ms k.val - mx) ≠ ⊤ := sum_ne_top _ _ fun k _ => hexp _ (hne_top _)
    have hp : 0 < ∑ k : Fin 8192, Ideal.exp2 (ms k.val - mx) := by
      obtain ⟨j, hj⟩ := hne
      have hj' := j.isLt
      refine lt_of_lt_of_le ?_ (Finset.single_le_sum (f := fun k : Fin 8192 => Ideal.exp2 (ms k.val - mx)) (fun k _ => exp2_nonneg _) (Finset.mem_univ (⟨512 * qi + j.val, by omega⟩ : Fin 8192)))
      show 0 < Ideal.exp2 (ms (512 * qi + j.val) - mx)
      rw [hmM, hr]
      have ht := htop (512 * qi + j.val)
      revert hj ht
      induction ms (512 * qi + j.val) using EReal.rec with
      | bot => intro h; exact absurd rfl h
      | top => intro _ h; exact absurd rfl h
      | coe x => intro _ _; rw [← EReal.coe_sub, exp2_coe]; exact EReal.coe_pos.mpr (Real.rpow_pos_of_pos (by norm_num) _)
    refine ⟨_, EReal.toReal_pos hp ht, (EReal.coe_toReal ht ?_).symm⟩
    intro h; rw [h] at hp; exact absurd hp not_lt_bot
  obtain ⟨l, hl0, hl⟩ := hl
  have hL' : L (qi + 1) = l := by
    rw [hLs, hsum (fun _ => 1) (fun _ _ => 1) (fun _ _ _ => rfl), ← hl]; simp only [one_mul]
  rw [hl, hL', hAs, hsum vs v hv, div_sum _ l hl0]

end Cert.Fox

end
-- ==== Proof.Score.lean ====
/-
  The recurrence's scores, maxima and accumulators at one query over the extended reals.
-/
module

public import proofs.«01_k».proof.Proof.Steps
public import proofs.«01_k».proof.Proof.Soft
public import proofs.«01_k».proof.Proof.Run

@[expose] public section

set_option maxRecDepth 16384

noncomputable section

namespace Cert.Fox

open Cert.KernelIdeal Cert.KernelIdeal.Gen
open Idealize.ShloMosaic Idealize.ShloMosaic.TcCoe Idealize.SL.Sem

/-- A sum of terms that vanish off a window is the sum over the window. -/
theorem sum_window {N : ℕ} (a w : ℕ) (h : a + w ≤ N) (f : Fin N → EReal) :
    ∑ j : Fin N, (if a ≤ j.val ∧ j.val < a + w then f j else 0) = ∑ d : Fin w, f ⟨a + d.val, by omega⟩ := by
  rw [← Finset.sum_filter]
  symm
  refine Finset.sum_bij (fun d _ => (⟨a + d.val, by omega⟩ : Fin N)) ?_ ?_ ?_ ?_
  · intro d _; have := d.isLt; simp only [Finset.mem_filter, Finset.mem_univ, true_and]; omega
  · intro d _ e _ he; have := congrArg Fin.val he; exact Fin.ext (by simp only at this; omega)
  · intro j hj
    simp only [Finset.mem_filter, Finset.mem_univ, true_and] at hj
    exact ⟨⟨j.val - a, by omega⟩, Finset.mem_univ _, Fin.ext (by simp only; omega)⟩
  · intro d _; rfl

variable (I : Inp Ideal)

theorem qa_top (hh : Fin 2) (r : Fin 128) (q : Fin 512) :
    I.qa hh (ix2 ⟨r.val, by omega⟩ q) = if 64 * hh.val ≤ r.val ∧ r.val < 64 * hh.val + 64 then I.q (ix2 q r) else 0 := by
  have hr := r.isLt
  match hh with
  | 0 =>
    refine (pay256_at I.q ⟨r.val, by omega⟩ q).trans ?_
    rw [dif_pos hr]
    simp
  | 1 =>
    refine (pay261_at I.q ⟨r.val, by omega⟩ q).trans ?_
    rw [dif_pos hr]
    simp [hr]

theorem qa_bot (hh : Fin 2) (r : Fin 128) (q : Fin 512) :
    I.qa hh (ix2 ⟨128 + r.val, by omega⟩ q) = if 3 * hh.val ≤ r.val ∧ r.val < 3 * hh.val + 3 then 1 else 0 := by
  have hr := r.isLt
  match hh with
  | 0 =>
    refine (pay256_at I.q ⟨128 + r.val, by omega⟩ q).trans ?_
    rw [dif_neg (by simp)]
    simp only [Fin.val_zero]
    split_ifs <;> first | rfl | (exfalso; omega)
  | 1 =>
    refine (pay261_at I.q ⟨128 + r.val, by omega⟩ q).trans ?_
    rw [dif_neg (by simp)]
    simp only [Fin.val_one]
    split_ifs <;> first | rfl | (exfalso; omega)

/-- The score of one key and query. -/
def dotAt (hh : Fin 2) (kb ab : FVec Ideal S512x128 .bf16) (k q : Fin 512) : EReal :=
  (∑ d : Fin 64, I.q (ix2 q ⟨64 * hh.val + d.val, by omega⟩) * kb (ix2 k ⟨64 * hh.val + d.val, by omega⟩))
    + ∑ e : Fin 3, ab (ix2 k ⟨3 * hh.val + e.val, by omega⟩)

theorem dot_eq (hh : Fin 2) (kb ab : FVec Ideal S512x128 .bf16) (k q : Fin 512) :
    ((∑ j : Fin 128, kb (ix2 k j) * I.qa hh (ix2 ⟨j.val, by omega⟩ q)) + ∑ j : Fin 128, ab (ix2 k j) * I.qa hh (ix2 ⟨128 + j.val, by omega⟩ q) : EReal) = dotAt I hh kb ab k q := by
  have hh' := hh.isLt
  have e1 : (∑ j : Fin 128, kb (ix2 k j) * I.qa hh (ix2 ⟨j.val, by omega⟩ q) : EReal)
      = ∑ j : Fin 128, (if 64 * hh.val ≤ j.val ∧ j.val < 64 * hh.val + 64 then (I.q (ix2 q j) * kb (ix2 k j) : EReal) else 0) :=
    Finset.sum_congr rfl fun j _ => by
      rw [qa_top, mul_ite, mul_zero]; congr 1; exact mul_comm _ _
  have e2 : (∑ j : Fin 128, ab (ix2 k j) * I.qa hh (ix2 ⟨128 + j.val, by omega⟩ q) : EReal)
      = ∑ j : Fin 128, (if 3 * hh.val ≤ j.val ∧ j.val < 3 * hh.val + 3 then (ab (ix2 k j) : EReal) else 0) :=
    Finset.sum_congr rfl fun j _ => by
      rw [qa_bot, mul_ite, mul_zero, mul_one]
  rw [e1, e2, sum_window _ _ (by omega), sum_window _ _ (by omega)]
  rfl

theorem T_succ_at (hh : Fin 2) (n : ℕ) (k q : Fin 512) : I.T hh (n + 1) (ix4 0 0 k q) = dotAt I hh (I.k n) (I.aug n) k q :=
  (pay13_at (I.qa hh) (I.k n) (I.aug n) k q).trans (dot_eq I hh (I.k n) (I.aug n) k q)

theorem T_zero_at (hmask : I.mask = k0_pay254) (hh : Fin 2) (k q : Fin 512) :
    I.T hh 0 (ix4 0 0 k q) = dotAt I hh (I.k I.qi) (I.aug I.qi) k q + (if k.val ≤ q.val then (0 : EReal) else ⊥) := by
  refine (pay267_at (I.qa hh) (I.k I.qi) (I.aug I.qi) I.mask k q).trans ?_
  rw [hmask, pay254_at]
  exact congrArg (· + _) (dot_eq I hh (I.k I.qi) (I.aug I.qi) k q)

theorem B_at (hh : Fin 2) (n : ℕ) (q : Fin 512) : I.B hh n (ix2 0 q) = Finset.univ.fold max ⊥ fun k : Fin 512 => I.T hh n (ix4 0 0 k q) := by
  match n with
  | 0 => exact pay268_at ..
  | n + 1 => exact pay14_at ..

theorem M_zero_at (hh : Fin 2) (q : Fin 512) : I.M hh 0 (ix2 0 q) = (⊥ : EReal) := by
  show k0_pay263 (F := Ideal) (ix2 0 q) = _
  pointwise [k0_pay263]
  exact ninf

theorem M_succ_at (hh : Fin 2) (n : ℕ) (q : Fin 512) :
    I.M hh (n + 1) (ix2 0 q) = max (I.M hh n (ix2 0 q)) (Finset.univ.fold max ⊥ fun k : Fin 512 => I.T hh n (ix4 0 0 k q)) := by
  rw [← B_at]; exact pay17_at ..

theorem A_zero_at (hh : Fin 2) (r : Fin 80) (q : Fin 512) : I.A hh 0 (ix3 0 r q) = (0 : EReal) := by
  show Ideal.ofBits .f32 0x00000000#32 = 0
  simp [Ideal.ofBits, Ideal.ieee]

theorem max_at (hh : Fin 2) (n : ℕ) (q : Fin 512) : max (I.M hh n (ix2 0 q)) (I.B hh n (ix2 0 q)) = I.M hh (n + 1) (ix2 0 q) := (pay17_at _ _ q).symm

theorem A_succ_at (hh : Fin 2) (n : ℕ) (r : Fin 64) (q : Fin 512) :
    I.A hh (n + 1) (ix3 0 ⟨r.val, by omega⟩ q) = Ideal.exp2 (I.M hh n (ix2 0 q) - I.M hh (n + 1) (ix2 0 q)) * I.A hh n (ix3 0 ⟨r.val, by omega⟩ q)
      + ∑ k : Fin 512, I.v hh (I.blk n) (ix5 0 0 0 r k) * Ideal.exp2 (I.T hh n (ix4 0 0 k q) - I.M hh (n + 1) (ix2 0 q)) := by
  refine (pay23_at _ _ _ _ r q).trans ?_
  rw [pay18_at, max_at]
  congr 1
  exact Finset.sum_congr rfl fun k _ => by rw [pay19_at, max_at]

theorem L_succ_at (hh : Fin 2) (n : ℕ) (q : Fin 512) :
    I.A hh (n + 1) (ix3 0 ⟨64, by omega⟩ q) = Ideal.exp2 (I.M hh n (ix2 0 q) - I.M hh (n + 1) (ix2 0 q)) * I.A hh n (ix3 0 ⟨64, by omega⟩ q)
      + ∑ k : Fin 512, Ideal.exp2 (I.T hh n (ix4 0 0 k q) - I.M hh (n + 1) (ix2 0 q)) := by
  refine (pay23_sum _ _ _ _ q).trans ?_
  rw [pay18_at, max_at]
  congr 1
  exact Finset.sum_congr rfl fun k _ => by rw [pay19_at, max_at]

theorem rows_at (w : FVec Ideal S1x80x512 .f32) (r : Fin 64) (q : Fin 512) : rowsOf w (ix3 0 r q) = w (ix3 0 ⟨r.val, by omega⟩ q) := by
  refine congrArg w (funext fun a => Fin.ext ?_)
  match a with
  | ⟨0, _⟩ => rfl
  | ⟨1, _⟩ => simp [Rect.emb, LoadRect.idx, Rect.unit]
  | ⟨2, _⟩ => simp [Rect.emb, LoadRect.idx, Rect.unit]

theorem sum_at (w : FVec Ideal S1x80x512 .f32) (q : Fin 512) : sumOf w (ix3 0 0 q) = w (ix3 0 ⟨64, by omega⟩ q) := by
  refine congrArg w (funext fun a => Fin.ext ?_)
  match a with
  | ⟨0, _⟩ => rfl
  | ⟨1, _⟩ => rfl
  | ⟨2, _⟩ => simp [Rect.emb, LoadRect.idx, Rect.unit]

/-- The stored block: each head's accumulated values over its accumulated weights. -/
theorem out_at (q : Fin 512) (hh : Fin 2) (d : Fin 64) :
    I.out (ix2 q ⟨64 * hh.val + d.val, by omega⟩)
      = Ideal.div (I.A hh (I.qi + 1) (ix3 0 ⟨d.val, by omega⟩ q)) (I.A hh (I.qi + 1) (ix3 0 ⟨64, by omega⟩ q)) := by
  refine (pay9_at _ _ _ _ q ⟨64 * hh.val + d.val, by omega⟩).trans ?_
  have hd := d.isLt
  match hh with
  | 0 =>
    rw [dif_pos (by simp), rows_at, sum_at]
    simp
  | 1 =>
    rw [dif_neg (by simp), rows_at, sum_at]
    simp

theorem rowBlk_at (n : ℕ) (hn : n < 16) (x : FVec Ideal S8192x128 .bf16) (k : Fin 512) (j : Fin 128) :
    rowBlk n x (ix2 k j) = x (ix2 ⟨512 * n + k.val, by omega⟩ j) := by
  have h : ∀ a, (![512 * n, 0] : Fin 2 → Nat) a + S512x128.size a ≤ S8192x128.size a := by
    intro a
    match a with
    | ⟨0, _⟩ => show 512 * n + 512 ≤ 8192; omega
    | ⟨1, _⟩ => show 0 + 128 ≤ 128; omega
  rw [rowBlk_eq n x h]
  refine congrArg x (funext fun a => Fin.ext ?_)
  match a with
  | ⟨0, _⟩ => simp [Rect.emb, LoadRect.idx, Rect.unit]
  | ⟨1, _⟩ => simp [Rect.emb, LoadRect.idx, Rect.unit]

theorem valBlk_at (hh : Fin 2) (n : ℕ) (hn : n < 16) (x : FVec Ideal S1x1x16x128x512 .bf16) (r : Fin 64) (k : Fin 512) :
    valBlk (64 * hh.val) n x (ix5 0 0 0 r k) = x (ix5 0 0 ⟨n, hn⟩ ⟨64 * hh.val + r.val, by omega⟩ k) := by
  have hh' := hh.isLt
  have h : ∀ a, (![0, 0, n, 64 * hh.val, 0] : Fin 5 → Nat) a + S1x1x1x64x512.size a ≤ S1x1x16x128x512.size a := by
    intro a
    match a with
    | ⟨0, _⟩ => show 0 + 1 ≤ 1; omega
    | ⟨1, _⟩ => show 0 + 1 ≤ 1; omega
    | ⟨2, _⟩ => show n + 1 ≤ 16; omega
    | ⟨3, _⟩ => show 64 * hh.val + 64 ≤ 128; omega
    | ⟨4, _⟩ => show 0 + 512 ≤ 512; omega
  rw [valBlk_eq _ n x h]
  refine congrArg x (funext fun a => Fin.ext ?_)
  match a with
  | ⟨0, _⟩ => rfl
  | ⟨1, _⟩ => rfl
  | ⟨2, _⟩ => rfl
  | ⟨3, _⟩ => simp [Rect.emb, LoadRect.idx, Rect.unit]
  | ⟨4, _⟩ => simp [Rect.emb, LoadRect.idx, Rect.unit]

end Cert.Fox

end
-- ==== Proof.Ref.lean ====
/-
  The reference's result read at an index over the extended reals.
-/
module

public import proofs.«01_k».proof.Proof.Gen.ReferenceIdeal.Run
public import proofs.«01_k».proof.Proof.Gen.ReferenceIdeal
public import proofs.«01_k».proof.Proof.Steps
public import Idealize.ShloMosaic.Lib.Pointwise
public import Idealize.ShloMosaic.Lib.WordCmp

@[expose] public section

set_option maxRecDepth 16384

noncomputable section

namespace Cert.Fox.Ref

open Cert.ReferenceIdeal Cert.ReferenceIdeal.Gen
open Idealize.ShloMosaic Idealize.ShloMosaic.TcCoe Idealize.SL.Sem Idealize.ShloMosaic.StableHlo

/-- The queries' (or the keys') columns from `off` on, as batch, token, head, dimension. -/
def rQK (off : Nat) (h : S16384x3584.Slices ![0, off] S16384x1024) (x : FVec Ideal S16384x3584 .bf16) : FVec Ideal S2x8192x16x64 .f32 :=
  shapeCast _ (extf .f32 (extractStridedSlice S16384x1024 ![0, off] x h) bitsLt_bf16_f32) shapeCasts_S16384x1024_S2x8192x16x64

/-- The bias of each key, as batch, head, token. -/
def rBias (x : FVec Ideal S16384x1024 .bf16) : FVec Ideal S2x16x8192 .f32 :=
  transpose S2x16x8192 [0, 2, 1] (Host.reduceAdd (shapeCast _ (extractStridedSlice S2x8192x8x6 ![0, 0, 0, 0] (shapeCast _ (extf .f32 x bitsLt_bf16_f32) shapeCasts_S16384x1024_S2x8192x8x128) slices_S2x8192x8x128_S2x8192x8x6_0_0_0_0) shapeCasts_S2x8192x8x6_S2x8192x16x3) (constant S_ .f32 0x00000000#32) reducesTo_S2x8192x16x3_S2x8192x16_d3 h_S_) transposes_S2x8192x16_S2x16x8192_0_2_1

/-- The masked logits from queries, keys and bias. -/
def rLogit (q k : FVec Ideal S2x8192x16x64 .f32) (b : FVec Ideal S2x16x8192 .f32) : FVec Ideal S2x16x8192x8192 .f32 :=
  select (broadcastInDim S2x16x8192x8192 ![2, 3] bcast_S8192x8192_S2x16x8192x8192_2_3 (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))))) (addf (Host.dotGeneral dot_S2x8192x16x64_S2x8192x16x64_S2x16x8192x8192_3_3_1_1_02_02 none q k) (broadcastInDim S2x16x8192x8192 ![0, 1, 2, 3] bcast_S2x16x1x8192_S2x16x8192x8192_0_1_2_3 (broadcastInDim S2x16x1x8192 ![0, 1, 3] bcast_S2x16x8192_S2x16x1x8192_0_1_3 b))) (broadcastInDim S2x16x8192x8192 ![] bcast_S_S2x16x8192x8192 (id (constant S_ .f32 0xFF800000#32)))

/-- The powers of two of the logits less their row maximum. -/
def rExp (s : FVec Ideal S2x16x8192x8192 .f32) : FVec Ideal S2x16x8192x8192 .f32 :=
  Host.powf (broadcastInDim S2x16x8192x8192 ![] bcast_S_S2x16x8192x8192 (constant S_ .f32 0x40000000#32)) (subf s (broadcastInDim S2x16x8192x8192 ![0, 1, 2, 3] bcast_S2x16x8192x1_S2x16x8192x8192_0_1_2_3 (broadcastInDim S2x16x8192x1 ![0, 1, 2] bcast_S2x16x8192_S2x16x8192x1_0_1_2 (Host.reduce FloatOps.maximumf s (constant S_ .f32 0xFF800000#32) reducesTo_S2x16x8192x8192_S2x16x8192_d3 h_S_))))

/-- The softmax weights. -/
def rProb (e : FVec Ideal S2x16x8192x8192 .f32) : FVec Ideal S2x16x8192x8192 .f32 :=
  Host.divf e (broadcastInDim S2x16x8192x8192 ![0, 1, 2, 3] bcast_S2x16x8192x1_S2x16x8192x8192_0_1_2_3 (broadcastInDim S2x16x8192x1 ![0, 1, 2] bcast_S2x16x8192_S2x16x8192x1_0_1_2 (Host.reduceAdd e (constant S_ .f32 0x00000000#32) reducesTo_S2x16x8192x8192_S2x16x8192_d3 h_S_)))

/-- The values as batch, token, head, dimension. -/
def rVal (x : FVec Ideal S2x8x16x128x512 .bf16) : FVec Ideal S2x8192x16x64 .f32 :=
  shapeCast _ (transpose S2x16x512x8x2x64 [0, 2, 5, 1, 3, 4] (shapeCast _ (extf .f32 x bitsLt_bf16_f32) shapeCasts_S2x8x16x128x512_S2x8x16x2x64x512) transposes_S2x8x16x2x64x512_S2x16x512x8x2x64_0_2_5_1_3_4) shapeCasts_S2x16x512x8x2x64_S2x8192x16x64

/-- The result: the weighted values, heads side by side. -/
def rOut (v : FVec Ideal S2x8192x16x64 .f32) (p : FVec Ideal S2x16x8192x8192 .f32) : FVec Ideal S16384x1024 .bf16 :=
  truncf .bf16 (shapeCast _ (transpose S2x8192x16x64 [0, 3, 1, 2] (Host.dotGeneral dot_S2x8192x16x64_S2x16x8192x8192_S2x16x64x8192_1_3_3_2_02_01 none v p) transposes_S2x16x64x8192_S2x8192x16x64_0_3_1_2) shapeCasts_S2x8192x16x64_S16384x1024) bitsLt_bf16_f32

/-- The reference's result, as its stages. -/
theorem res_eq (m : (ℓ : Loc nD τ sig) → Buf (Elt Ideal) ℓ) (c : Dev nD) :
    Cert.ReferenceIdeal.Value.res_main_v41 m c = rOut (rVal (m ((c.tc : Thread nD τ).loc main_arg2)))
      (rProb (rExp (rLogit (rQK 1536 slices_S16384x3584_S16384x1024_0_1536 (m ((c.tc : Thread nD τ).loc main_arg0)))
        (rQK 2560 slices_S16384x3584_S16384x1024_0_2560 (m ((c.tc : Thread nD τ).loc main_arg0))) (rBias (m ((c.tc : Thread nD τ).loc main_arg1)))))) := by
  unfold Cert.ReferenceIdeal.Value.res_main_v41 rOut rProb rExp rLogit rVal rQK rBias
  rfl

theorem rQK_q (x : FVec Ideal S16384x3584 .bf16) (b : Fin 2) (t : Fin 8192) (h : Fin 16) (d : Fin 64) :
    rQK 1536 slices_S16384x3584_S16384x1024_0_1536 x (ix4 b t h d) = x (ix2 ⟨b.val * 8192 + t.val, by omega⟩ ⟨1536 + (h.val * 64 + d.val), by omega⟩) := by
  pointwise [rQK]

theorem rQK_k (x : FVec Ideal S16384x3584 .bf16) (b : Fin 2) (t : Fin 8192) (h : Fin 16) (d : Fin 64) :
    rQK 2560 slices_S16384x3584_S16384x1024_0_2560 x (ix4 b t h d) = x (ix2 ⟨b.val * 8192 + t.val, by omega⟩ ⟨2560 + (h.val * 64 + d.val), by omega⟩) := by
  pointwise [rQK]

theorem rVal_at (x : FVec Ideal S2x8x16x128x512 .bf16) (b : Fin 2) (t : Fin 8192) (h : Fin 16) (d : Fin 64) :
    rVal x (ix4 b t h d) = x (ix5 b ⟨h.val / 2, by omega⟩ ⟨t.val / 512, by omega⟩ ⟨h.val % 2 * 64 + d.val, by omega⟩ ⟨t.val % 512, by omega⟩) := by
  pointwise [rVal]

theorem rBias_at (x : FVec Ideal S16384x1024 .bf16) (b : Fin 2) (t : Fin 8192) (h : Fin 16) :
    rBias x (ix3 b h t) = ∑ e : Fin 3, x (ix2 ⟨b.val * 8192 + t.val, by omega⟩ ⟨h.val / 2 * 128 + (h.val % 2 * 3 + e.val), by omega⟩) := by
  pointwise [rBias]

theorem rLogit_at (q k : FVec Ideal S2x8192x16x64 .f32) (b : FVec Ideal S2x16x8192 .f32) (i : Fin 2) (h : Fin 16) (t u : Fin 8192) :
    rLogit q k b (ix4 i h t u) = if u.val ≤ t.val then (∑ d : Fin 64, q (ix4 i t h d) * k (ix4 i u h d)) + b (ix3 i h u) else ⊥ := by
  pointwise [rLogit]
  have ht := t.isLt
  have hu := u.isLt
  have e : IntOp.cmpi CmpIPredicate.sge (BitVec.ofNat 32 t.val) (BitVec.ofNat 32 u.val) = BitVec.ofBool (decide (u.val ≤ t.val)) :=
    WordCmp.cmpi_sge_ofNat (by omega) (by omega)
  rw [e]
  simp only [Scalar.select, ofBool_one, decide_eq_true_eq]
  congr 1

theorem rExp_at (s : FVec Ideal S2x16x8192x8192 .f32) (i : Fin 2) (h : Fin 16) (t u : Fin 8192) :
    rExp s (ix4 i h t u) = Ideal.pow (Ideal.ofBits .f32 0x40000000#32) (s (ix4 i h t u) - Finset.univ.fold max ⊥ fun u' : Fin 8192 => s (ix4 i h t u')) := by
  pointwise [rExp]
  rw [ninf]

theorem rProb_at (e : FVec Ideal S2x16x8192x8192 .f32) (i : Fin 2) (h : Fin 16) (t u : Fin 8192) :
    rProb e (ix4 i h t u) = Ideal.div (e (ix4 i h t u)) (∑ u' : Fin 8192, e (ix4 i h t u')) := by
  pointwise [rProb]

theorem rOut_at (v : FVec Ideal S2x8192x16x64 .f32) (p : FVec Ideal S2x16x8192x8192 .f32) (r : Fin 16384) (w : Fin 1024) :
    rOut v p (ix2 r w) = ∑ u : Fin 8192, v (ix4 ⟨r.val / 8192, by omega⟩ u ⟨w.val / 64, by omega⟩ ⟨w.val % 64, by omega⟩) * p (ix4 ⟨r.val / 8192, by omega⟩ ⟨w.val / 64, by omega⟩ ⟨r.val % 8192, by omega⟩ u) := by
  pointwise [rOut]

end Cert.Fox.Ref

end
-- ==== Proof.Value.lean ====
/-
  The attention call's result array, entry by entry, and the reference's: one expression of the arguments.
-/
module

public import proofs.«01_k».proof.Proof.Score
public import proofs.«01_k».proof.Proof.Ref
public import Idealize.ShloMosaic.Lib.Pipeline.ValueKit

@[expose] public section

set_option maxRecDepth 16384

noncomputable section

namespace Cert.Fox

open Cert.KernelIdeal Cert.KernelIdeal.Gen
open Idealize.ShloMosaic Idealize.ShloMosaic.TcCoe Idealize.SL.Sem

variable (x0 : FVec Ideal S16384x3584 .bf16) (x1 : FVec Ideal S16384x1024 .bf16) (x2 : FVec Ideal S2x8x16x128x512 .bf16)

/-- The logit of query `t` and key `u` of a batch and head. -/
def logit (b : Fin 2) (h : Fin 16) (t u : Fin 8192) : EReal :=
  (∑ d : Fin 64, x0 (ix2 ⟨b.val * 8192 + t.val, by omega⟩ ⟨1536 + (h.val * 64 + d.val), by omega⟩) * x0 (ix2 ⟨b.val * 8192 + u.val, by omega⟩ ⟨2560 + (h.val * 64 + d.val), by omega⟩))
    + ∑ e : Fin 3, x1 (ix2 ⟨b.val * 8192 + u.val, by omega⟩ ⟨h.val / 2 * 128 + (h.val % 2 * 3 + e.val), by omega⟩)

/-- The masked logit of the key numbered `u`. -/
def masked (b : Fin 2) (h : Fin 16) (t : Fin 8192) (u : ℕ) : EReal :=
  if hu : u ≤ t.val then logit x0 x1 b h t ⟨u, by omega⟩ else ⊥

theorem masked_le (b : Fin 2) (h : Fin 16) (t : Fin 8192) (u : ℕ) (hu : u ≤ t.val) : masked x0 x1 b h t u = logit x0 x1 b h t ⟨u, by omega⟩ := dif_pos hu
theorem masked_gt (b : Fin 2) (h : Fin 16) (t : Fin 8192) (u : ℕ) (hu : ¬u ≤ t.val) : masked x0 x1 b h t u = ⊥ := dif_neg hu

/-- Entry `d` of the value of the key numbered `u`. -/
def value (b : Fin 2) (h : Fin 16) (d : Fin 64) (u : ℕ) : EReal :=
  if hu : u < 8192 then x2 (ix5 b ⟨h.val / 2, by omega⟩ ⟨u / 512, by omega⟩ ⟨h.val % 2 * 64 + d.val, by omega⟩ ⟨u % 512, by omega⟩) else 0

/-- The result at batch `b`, head `h`, query `t`, dimension `d`. -/
def attn (b : Fin 2) (h : Fin 16) (t : Fin 8192) (d : Fin 64) : EReal :=
  ∑ k : Fin 8192, value x2 b h d k.val * Ideal.div (Ideal.exp2 (masked x0 x1 b h t k.val - Finset.univ.fold max ⊥ fun u : Fin 8192 => masked x0 x1 b h t u.val))
    (∑ k : Fin 8192, Ideal.exp2 (masked x0 x1 b h t k.val - Finset.univ.fold max ⊥ fun u : Fin 8192 => masked x0 x1 b h t u.val))

/-- Every query and key entry and every bias term is real. -/
def Fin₀ : Prop :=
  (∀ (r : Fin 16384) (j : Fin 2048), ∃ y : ℝ, x0 (ix2 r ⟨1536 + j.val, by omega⟩) = (y : EReal))
  ∧ ∀ (r : Fin 16384) (g : Fin 8) (e : Fin 6), ∃ y : ℝ, x1 (ix2 r ⟨g.val * 128 + e.val, by omega⟩) = (y : EReal)

theorem real_sum {n : ℕ} (f : Fin n → EReal) (h : ∀ i, ∃ y : ℝ, f i = y) : ∃ y : ℝ, ∑ i, f i = y := by
  choose g hg using h
  refine ⟨∑ i, g i, ?_⟩
  rw [Finset.sum_congr rfl fun i _ => hg i]
  induction (Finset.univ : Finset (Fin n)) using Finset.induction_on with
  | empty => simp
  | insert i s hi ih => rw [Finset.sum_insert hi, Finset.sum_insert hi, EReal.coe_add, ih]

theorem logit_real (hf : Fin₀ x0 x1) (b : Fin 2) (h : Fin 16) (t u : Fin 8192) : ∃ y : ℝ, logit x0 x1 b h t u = y := by
  have h1 : ∃ y : ℝ, (∑ d : Fin 64, x0 (ix2 ⟨b.val * 8192 + t.val, by omega⟩ ⟨1536 + (h.val * 64 + d.val), by omega⟩) * x0 (ix2 ⟨b.val * 8192 + u.val, by omega⟩ ⟨2560 + (h.val * 64 + d.val), by omega⟩) : EReal) = y :=
    real_sum _ fun d => by
      obtain ⟨y, hy⟩ := hf.1 ⟨b.val * 8192 + t.val, by omega⟩ ⟨h.val * 64 + d.val, by omega⟩
      obtain ⟨z, hz⟩ := hf.1 ⟨b.val * 8192 + u.val, by omega⟩ ⟨1024 + (h.val * 64 + d.val), by omega⟩
      have hz' : x0 (ix2 ⟨b.val * 8192 + u.val, by omega⟩ ⟨2560 + (h.val * 64 + d.val), by omega⟩) = (z : EReal) := by
        rw [← hz]
        refine congrArg x0 (congrArg (ix2 _) (Fin.ext ?_))
        show 2560 + (h.val * 64 + d.val) = 1536 + (1024 + (h.val * 64 + d.val))
        omega
      exact ⟨y * z, by rw [hz', EReal.coe_mul, ← hy]⟩
  have h2 : ∃ y : ℝ, (∑ e : Fin 3, x1 (ix2 ⟨b.val * 8192 + u.val, by omega⟩ ⟨h.val / 2 * 128 + (h.val % 2 * 3 + e.val), by omega⟩) : EReal) = y :=
    real_sum _ fun e => hf.2 ⟨b.val * 8192 + u.val, by omega⟩ ⟨h.val / 2, by omega⟩ ⟨h.val % 2 * 3 + e.val, by omega⟩
  obtain ⟨y, hy⟩ := h1
  obtain ⟨z, hz⟩ := h2
  exact ⟨y + z, by rw [logit, hy, hz, EReal.coe_add]⟩

theorem masked_top (hf : Fin₀ x0 x1) (b : Fin 2) (h : Fin 16) (t : Fin 8192) (u : ℕ) : masked x0 x1 b h t u ≠ ⊤ := by
  unfold masked
  split
  · obtain ⟨y, hy⟩ := logit_real x0 x1 hf b h t ⟨u, by omega⟩
    rw [hy]; exact EReal.coe_ne_top y
  · exact bot_ne_top

/-- A masked logit less the row's maximum is not `⊤`: the diagonal logit is real. -/
theorem masked_sub_top (hf : Fin₀ x0 x1) (b : Fin 2) (h : Fin 16) (t : Fin 8192) (u : ℕ) :
    masked x0 x1 b h t u - (Finset.univ.fold max ⊥ fun u : Fin 8192 => masked x0 x1 b h t u.val) ≠ ⊤ := by
  have hne : (Finset.univ.fold max ⊥ fun u : Fin 8192 => masked x0 x1 b h t u.val) ≠ ⊥ := fun e => by
    have := ((Finset.fold_max_le (b := ⊥) (⊥ : EReal)).mp e.le).2 t (Finset.mem_univ _)
    rw [masked_le _ _ _ _ _ _ le_rfl] at this
    obtain ⟨y, hy⟩ := logit_real x0 x1 hf b h t t
    rw [hy] at this
    exact EReal.coe_ne_bot y (le_bot_iff.mp this)
  rw [sub_eq_add_neg]
  refine EReal.add_ne_top (masked_top x0 x1 hf b h t u) fun e => hne ?_
  rw [← neg_neg (Finset.univ.fold max ⊥ fun u : Fin 8192 => masked x0 x1 b h t u.val), e]; rfl

theorem inpOf_v (n : ℕ) (y0 : FVec Ideal S512x128 .bf16) (y1 y2 : FVec Ideal S8192x128 .bf16) (y3 : FVec Ideal S1x1x16x128x512 .bf16) (qi : ℕ) (hh : Fin 2) :
    (inpOf qi y0 y1 y2 y3).v hh n = valBlk (64 * hh.val) n y3 := by
  match hh with
  | 0 => rfl
  | 1 => rfl

/-- One grid point's block from the recurrence, its blocks being the arrays' at the point's place. -/
theorem point_at (hf : Fin₀ x0 x1) (b : Fin 2) (hp : Fin 8) (qi : Fin 16)
    (y0 : FVec Ideal S512x128 .bf16) (y1 y2 : FVec Ideal S8192x128 .bf16) (y3 : FVec Ideal S1x1x16x128x512 .bf16)
    (e0 : ∀ (q : Fin 512) (j : Fin 128), y0 (ix2 q j) = x0 (ix2 ⟨b.val * 8192 + (512 * qi.val + q.val), by omega⟩ ⟨1536 + (128 * hp.val + j.val), by omega⟩))
    (e1 : ∀ (u : Fin 8192) (j : Fin 128), y1 (ix2 u j) = x0 (ix2 ⟨b.val * 8192 + u.val, by omega⟩ ⟨2560 + (128 * hp.val + j.val), by omega⟩))
    (e2 : ∀ (u : Fin 8192) (j : Fin 128), y2 (ix2 u j) = x1 (ix2 ⟨b.val * 8192 + u.val, by omega⟩ ⟨hp.val * 128 + j.val, by omega⟩))
    (e3 : ∀ (n : Fin 16) (r : Fin 128) (k : Fin 512), y3 (ix5 0 0 n r k) = x2 (ix5 b hp n r k))
    (q : Fin 512) (hh : Fin 2) (d : Fin 64) :
    (inpOf qi.val y0 y1 y2 y3).out (ix2 q ⟨64 * hh.val + d.val, by omega⟩)
      = attn x0 x1 x2 b ⟨2 * hp.val + hh.val, by omega⟩ ⟨512 * qi.val + q.val, by omega⟩ d := by
  set I := inpOf qi.val y0 y1 y2 y3 with hI
  set h : Fin 16 := ⟨2 * hp.val + hh.val, by omega⟩ with hh0
  set t : Fin 8192 := ⟨512 * qi.val + q.val, by omega⟩ with ht0
  have ht1 : t.val = 512 * qi.val + q.val := rfl
  have hhl := hh.isLt
  have hqi := qi.isLt
  have hd2 : h.val / 2 = hp.val := by simp only [hh0]; omega
  have hm2 : h.val % 2 = hh.val := by simp only [hh0]; omega
  have hdot : ∀ (n : ℕ) (hn : n < 16) (k : Fin 512), dotAt I hh (I.k n) (I.aug n) k q = logit x0 x1 b h t ⟨512 * n + k.val, by omega⟩ := fun n hn k => by
    unfold dotAt logit
    congr 1
    · refine Finset.sum_congr rfl fun d _ => ?_
      have f0 : I.q (ix2 q ⟨64 * hh.val + d.val, by omega⟩) = x0 (ix2 ⟨b.val * 8192 + t.val, by omega⟩ ⟨1536 + (h.val * 64 + d.val), by omega⟩) := by
        refine (e0 q ⟨64 * hh.val + d.val, by omega⟩).trans ?_
        congr 3; simp only [hh0]; omega
      have f1 : I.k n (ix2 k ⟨64 * hh.val + d.val, by omega⟩) = x0 (ix2 ⟨b.val * 8192 + (512 * n + k.val), by omega⟩ ⟨2560 + (h.val * 64 + d.val), by omega⟩) := by
        refine (rowBlk_at n hn y1 k ⟨64 * hh.val + d.val, by omega⟩).trans ((e1 _ _).trans ?_)
        congr 3; simp only [hh0]; omega
      rw [f0, f1]
    · refine Finset.sum_congr rfl fun e _ => ?_
      refine (rowBlk_at n hn y2 k ⟨3 * hh.val + e.val, by omega⟩).trans ((e2 _ _).trans ?_)
      congr 3; simp only [hd2, hm2]; omega
  have hT : ∀ n, n ≤ qi.val → ∀ k : Fin 512, I.T hh n (ix4 0 0 k q) = masked x0 x1 b h t (512 * order qi.val n + k.val) := fun n hn k => by
    match n with
    | 0 =>
      rw [T_zero_at I rfl]
      have := hdot qi.val hqi k
      rw [show I.qi = qi.val from rfl, this]
      show logit x0 x1 b h t ⟨512 * qi.val + k.val, by omega⟩ + _ = masked x0 x1 b h t (512 * qi.val + k.val)
      by_cases hk : k.val ≤ q.val
      · rw [if_pos hk, masked_le x0 x1 b h t _ (by rw [ht1]; omega), add_zero]
      · rw [if_neg hk, masked_gt x0 x1 b h t _ (by rw [ht1]; omega), EReal.add_bot]
    | n + 1 =>
      rw [T_succ_at, hdot n (by omega)]
      have hk := k.isLt
      exact (masked_le x0 x1 b h t _ (by rw [ht1]; omega)).symm
  have hV : ∀ n, n ≤ qi.val → ∀ k : Fin 512, I.v hh (I.blk n) (ix5 0 0 0 d k) = value x2 b h d (512 * order qi.val n + k.val) := fun n hn k => by
    have hb : I.blk n = order qi.val n := by cases n <;> rfl
    have hlt : order qi.val n < 16 := by cases n <;> simp only [order] <;> omega
    rw [hI, inpOf_v, ← hI, hb]
    refine (valBlk_at hh _ hlt y3 d k).trans ((e3 _ _ _).trans ?_)
    have hk := k.isLt
    unfold value
    rw [dif_pos (by omega)]
    congr 2
    · exact Fin.ext hd2.symm
    · exact Fin.ext (by simp only; omega)
    · exact Fin.ext (by simp only [hm2]; omega)
    · exact Fin.ext (by simp only; omega)
  have := attend qi.val hqi (masked x0 x1 b h t) (value x2 b h d)
    (fun k hk => masked_gt x0 x1 b h t k (by have := q.isLt; rw [ht1]; omega))
    (masked_top x0 x1 hf b h t)
    ⟨q, by
      rw [masked_le x0 x1 b h t _ (by rw [ht1])]
      obtain ⟨y, hy⟩ := logit_real x0 x1 hf b h t ⟨512 * qi.val + q.val, by omega⟩
      rw [hy]; exact EReal.coe_ne_bot y⟩
    (fun n k => I.T hh n (ix4 0 0 k q)) (fun n k => I.v hh (I.blk n) (ix5 0 0 0 d k)) hT hV
    (fun n => I.M hh n (ix2 0 q)) (fun n => I.A hh n (ix3 0 ⟨d.val, by omega⟩ q)) (fun n => I.A hh n (ix3 0 ⟨64, by omega⟩ q))
    (M_zero_at I hh q) (A_zero_at I hh _ q) (A_zero_at I hh _ q) (fun n => M_succ_at I hh n q) (fun n => A_succ_at I hh n d q) (fun n => L_succ_at I hh n q)
    _ rfl
  exact (out_at I q hh d).trans this

end Cert.Fox

end
-- ==== Proof.Arr.lean ====
/-
  The result array of the attention call after its run, and the agreement with the reference.
-/
module

public import proofs.«01_k».proof.Proof.Value

@[expose] public section

set_option maxRecDepth 16384

noncomputable section

namespace Cert.Fox

open Cert.KernelIdeal Cert.KernelIdeal.Gen
open Idealize.ShloMosaic Idealize.ShloMosaic.TcCoe Idealize.SL.Sem
open Idealize.ShloMosaic.Pipeline (Dat)

theorem index0 : ∀ t : Fin cfg0.N, win0_0.index t = ![t.val / 128 * 16 + t.val % 16, 12 + t.val / 16 % 8] := (by decide +kernel : ∀ t : Fin grid0.N, _)
theorem index1 : ∀ t : Fin cfg0.N, win0_1.index t = ![t.val / 128, 20 + t.val / 16 % 8] := (by decide +kernel : ∀ t : Fin grid0.N, _)
theorem index2 : ∀ t : Fin cfg0.N, win0_2.index t = ![t.val / 128, t.val / 16 % 8] := (by decide +kernel : ∀ t : Fin grid0.N, _)
theorem index3 : ∀ t : Fin cfg0.N, win0_3.index t = ![t.val / 128, t.val / 16 % 8, 0, 0, 0] := (by decide +kernel : ∀ t : Fin grid0.N, _)
theorem index4 : ∀ t : Fin cfg0.N, win0_4.index t = ![t.val / 128 * 16 + t.val % 16, t.val / 16 % 8] := (by decide +kernel : ∀ t : Fin grid0.N, _)

variable (m : (ℓ : Loc nD τ sig) → Buf (Elt Ideal) ℓ) (c : Dev nD)

/-- The arguments as arrays. -/
abbrev X0 : FVec Ideal S16384x3584 .bf16 := m ((c : Thread nD τ).loc main_arg0)
abbrev X1 : FVec Ideal S16384x1024 .bf16 := m ((c : Thread nD τ).loc main_arg1)
abbrev X2 : FVec Ideal S2x8x16x128x512 .bf16 := m ((c : Thread nD τ).loc main_arg2)

theorem lt256 (t : Fin cfg0.N) : t.val < 256 := t.isLt

theorem iblk0 (t : Fin cfg0.N) (q : Fin 512) (j : Fin 128) :
    iblk m c 0 t (ix2 q j) = X0 m c (ix2 ⟨t.val / 128 * 8192 + (512 * (t.val % 16) + q.val), by have := lt256 t; omega⟩ ⟨1536 + (128 * (t.val / 16 % 8) + j.val), by omega⟩) := by
  blk_simp [iblk]
  refine congrArg (X0 m c) ?_
  have := lt256 t
  blk_ext [index0]

theorem iblk1 (t : Fin cfg0.N) (u : Fin 8192) (j : Fin 128) :
    iblk m c 1 t (ix2 u j) = X0 m c (ix2 ⟨t.val / 128 * 8192 + u.val, by have := lt256 t; omega⟩ ⟨2560 + (128 * (t.val / 16 % 8) + j.val), by omega⟩) := by
  blk_simp [iblk]
  refine congrArg (X0 m c) ?_
  have := lt256 t
  blk_ext [index1]

theorem iblk2 (t : Fin cfg0.N) (u : Fin 8192) (j : Fin 128) :
    iblk m c 2 t (ix2 u j) = X1 m c (ix2 ⟨t.val / 128 * 8192 + u.val, by have := lt256 t; omega⟩ ⟨t.val / 16 % 8 * 128 + j.val, by omega⟩) := by
  blk_simp [iblk]
  refine congrArg (X1 m c) ?_
  have := lt256 t
  blk_ext [index2]

theorem iblk3 (t : Fin cfg0.N) (n : Fin 16) (r : Fin 128) (k : Fin 512) :
    iblk m c 3 t (ix5 0 0 n r k) = X2 m c (ix5 ⟨t.val / 128, by have := lt256 t; omega⟩ ⟨t.val / 16 % 8, by omega⟩ n r k) := by
  blk_simp [iblk]
  refine congrArg (X2 m c) ?_
  have := lt256 t
  blk_ext [index3]

/-- The result array. -/
def G (j : S16384x1024.Idx) : EReal :=
  attn (X0 m c) (X1 m c) (X2 m c) ⟨(j 0).val / 8192, by have := (j 0).isLt; change _ < 16384 at this; omega⟩ ⟨(j 1).val / 64, by have := (j 1).isLt; change _ < 1024 at this; omega⟩
    ⟨(j 0).val % 8192, by omega⟩ ⟨(j 1).val % 64, by omega⟩

theorem point_out (hf : Fin₀ (X0 m c) (X1 m c)) (t : Fin cfg0.N) (q : Fin 512) (r : Fin 128) :
    (inpAt m c t).out (ix2 q r) = G m c (ix2 ⟨(t.val / 128 * 16 + t.val % 16) * 512 + q.val, by have := lt256 t; omega⟩ ⟨t.val / 16 % 8 * 128 + r.val, by omega⟩) := by
  have ht := lt256 t
  have h := (point_at (X0 m c) (X1 m c) (X2 m c) hf ⟨t.val / 128, by omega⟩ ⟨t.val / 16 % 8, by omega⟩ ⟨t.val % 16, by omega⟩
    (iblk m c 0 t) (iblk m c 1 t) (iblk m c 2 t) (iblk m c 3 t) (iblk0 m c t) (iblk1 m c t) (iblk2 m c t) (iblk3 m c t) q ⟨r.val / 64, by omega⟩ ⟨r.val % 64, by omega⟩)
  have er : (⟨64 * (r.val / 64) + r.val % 64, by omega⟩ : Fin 128) = r := Fin.ext (Nat.div_add_mod _ _)
  unfold inpAt
  rw [coords2]
  rw [← er]
  refine (show _ from h).trans ?_
  unfold G
  have hq := q.isLt
  have hr := r.isLt
  congr 1
  · exact Fin.ext (show t.val / 128 = ((t.val / 128 * 16 + t.val % 16) * 512 + q.val) / 8192 by omega)
  · exact Fin.ext (show 2 * (t.val / 16 % 8) + r.val / 64 = (t.val / 16 % 8 * 128 + (64 * (r.val / 64) + r.val % 64)) / 64 by omega)
  · exact Fin.ext (show 512 * (t.val % 16) + q.val = ((t.val / 128 * 16 + t.val % 16) * 512 + q.val) % 8192 by omega)
  · exact Fin.ext (show r.val % 64 = (t.val / 16 % 8 * 128 + (64 * (r.val / 64) + r.val % 64)) % 64 by omega)

theorem final (hf : Fin₀ (X0 m c) (X1 m c)) : (dats m 0 c).arrAt 4 cfg0.N = (G m c : Buf (Elt Ideal) ((c : Thread nD τ).loc main_v0)) := by
  refine (dats m 0 c).arrAt_eq_of_covers 4 _ (by decide +kernel) fun t hf' y => ?_
  blk_simp
  rw [after0_4]
  obtain ⟨q, r, rfl⟩ : ∃ (q : Fin 512) (r : Fin 128), y = ix2 q r := ⟨y 0, y 1, eq_ix2 y⟩
  refine (point_out m c hf t q r).trans (congrArg (G m c) ?_)
  have := lt256 t
  blk_ext [index4]

/-- The reference's result is the same array. -/
theorem ref_eq (hf : Fin₀ (X0 m c) (X1 m c)) (m' : (ℓ : Loc Cert.ReferenceIdeal.nD Cert.ReferenceIdeal.τ Cert.ReferenceIdeal.sig) → Buf (Elt Ideal) ℓ) (c' : Dev Cert.ReferenceIdeal.nD)
    (h0 : m' ((c' : Thread Cert.ReferenceIdeal.nD Cert.ReferenceIdeal.τ).loc Cert.ReferenceIdeal.main_arg0) = X0 m c)
    (h1 : m' ((c' : Thread Cert.ReferenceIdeal.nD Cert.ReferenceIdeal.τ).loc Cert.ReferenceIdeal.main_arg1) = X1 m c)
    (h2 : m' ((c' : Thread Cert.ReferenceIdeal.nD Cert.ReferenceIdeal.τ).loc Cert.ReferenceIdeal.main_arg2) = X2 m c) :
    Cert.ReferenceIdeal.Value.res_main_v41 m' c' = G m c := by
  rw [Ref.res_eq, h0, h1, h2]
  funext j
  obtain ⟨r, w, rfl⟩ : ∃ (r : Fin 16384) (w : Fin 1024), j = ix2 r w := ⟨j 0, j 1, eq_ix2 j⟩
  rw [Ref.rOut_at]
  have hr := r.isLt
  have hw := w.isLt
  show _ = attn (X0 m c) (X1 m c) (X2 m c) ⟨r.val / 8192, by omega⟩ ⟨w.val / 64, by omega⟩ ⟨r.val % 8192, by omega⟩ ⟨w.val % 64, by omega⟩
  generalize (⟨r.val / 8192, by omega⟩ : Fin 2) = b
  generalize (⟨w.val / 64, by omega⟩ : Fin 16) = h
  generalize (⟨r.val % 8192, by omega⟩ : Fin 8192) = t
  generalize (⟨w.val % 64, by omega⟩ : Fin 64) = d
  have hL : ∀ u : Fin 8192, Ref.rLogit (Ref.rQK 1536 Cert.ReferenceIdeal.Gen.slices_S16384x3584_S16384x1024_0_1536 (X0 m c)) (Ref.rQK 2560 Cert.ReferenceIdeal.Gen.slices_S16384x3584_S16384x1024_0_2560 (X0 m c)) (Ref.rBias (X1 m c)) (ix4 b h t u)
      = masked (X0 m c) (X1 m c) b h t u.val := fun u => by
    rw [Ref.rLogit_at]
    by_cases hu : u.val ≤ t.val
    · rw [if_pos hu, masked_le _ _ _ _ _ _ hu, Ref.rBias_at]
      unfold logit
      congr 1
      exact Finset.sum_congr rfl fun e _ => by rw [Ref.rQK_q, Ref.rQK_k]
    · rw [if_neg hu, masked_gt _ _ _ _ _ _ hu]
  have ht : ∀ k : Fin 8192, masked (X0 m c) (X1 m c) b h t k.val - (Finset.univ.fold max ⊥ fun u : Fin 8192 => masked (X0 m c) (X1 m c) b h t u.val) ≠ ⊤ := fun k => by
    refine masked_sub_top (X0 m c) (X1 m c) hf b h t k.val
  have hE : ∀ u : Fin 8192, Ref.rExp (Ref.rLogit (Ref.rQK 1536 Cert.ReferenceIdeal.Gen.slices_S16384x3584_S16384x1024_0_1536 (X0 m c)) (Ref.rQK 2560 Cert.ReferenceIdeal.Gen.slices_S16384x3584_S16384x1024_0_2560 (X0 m c)) (Ref.rBias (X1 m c))) (ix4 b h t u)
      = Ideal.exp2 (masked (X0 m c) (X1 m c) b h t u.val - Finset.univ.fold max ⊥ fun u : Fin 8192 => masked (X0 m c) (X1 m c) b h t u.val) := fun u => by
    rw [Ref.rExp_at, ofBits_two, hL]
    simp only [hL]
    exact pow_two _ (ht u)
  unfold attn
  refine Finset.sum_congr rfl fun u _ => ?_
  rw [Ref.rProb_at, hE, Ref.rVal_at]
  simp only [hE]
  congr 1
  unfold value
  rw [dif_pos u.isLt]

end Cert.Fox

end
-- ==== Proof.Pre.lean ====
/-
  The precondition read: every query and key entry and every bias term is a real number.
-/
module

public import proofs.«01_k».proof.Pre_finite_scores
public import proofs.«01_k».proof.Proof.Arr

@[expose] public section

set_option maxRecDepth 16384

noncomputable section

namespace Cert.Fox.Pre

open Cert.Pre_finite_scores
open Idealize.ShloMosaic Idealize.ShloMosaic.TcCoe Idealize.SL.Sem

instance preFacts : Cert.Pre_finite_scores.Facts where
  slices_S16384x3584_S16384x2048_0_1536 := by decide
  bitsLt_bf16_f32 := by decide
  shapeCasts_S16384x1024_S16384x8x128 := by decide
  slices_S16384x8x128_S16384x8x6_0_0_0 := by decide
  bcast_S_S16384x2048 := by decide
  bcast_S_S16384x8x6 := by decide

theorem inf : Ideal.ofBits .f32 0x7F800000#32 = (⊤ : EReal) := by
  simp [Ideal.ofBits, Ideal.ieee]

/-- What the comparison with infinity says of a number. -/
theorem real_of_cmp (x : EReal) (h : Ideal.cmp .olt (max x (-x)) (Ideal.ofBits .f32 0x7F800000#32) = 1#1) : ∃ y : ℝ, x = y := by
  rw [inf] at h
  have h' : max x (-x) < ⊤ := by
    by_contra hn
    simp only [Ideal.cmp, decide_eq_false hn] at h
    exact absurd h (by decide)
  induction x using EReal.rec with
  | bot => exact absurd h' (by simp)
  | top => exact absurd h' (by simp)
  | coe y => exact ⟨y, rfl⟩

variable (x0 : FVec Ideal S16384x3584 .bf16) (x1 : FVec Ideal S16384x1024 .bf16) (x2 : FVec Ideal S2x8x16x128x512 .bf16)

theorem fst_at (r : Fin 16384) (j : Fin 2048) : (Cert.Pre_finite_scores.fn (F := Ideal) x0 x1 x2).1 (ix2 r j)
    = Ideal.cmp .olt (max (x0 (ix2 r ⟨1536 + j.val, by omega⟩) : EReal) (-x0 (ix2 r ⟨1536 + j.val, by omega⟩))) (Ideal.ofBits .f32 0x7F800000#32) := by
  pointwise [Cert.Pre_finite_scores.fn]
  rfl

theorem snd_at (r : Fin 16384) (g : Fin 8) (e : Fin 6) : (Cert.Pre_finite_scores.fn (F := Ideal) x0 x1 x2).2 (ix3 r g e)
    = Ideal.cmp .olt (max (x1 (ix2 r ⟨g.val * 128 + e.val, by omega⟩) : EReal) (-x1 (ix2 r ⟨g.val * 128 + e.val, by omega⟩))) (Ideal.ofBits .f32 0x7F800000#32) := by
  pointwise [Cert.Pre_finite_scores.fn]
  rfl

theorem finite (h : (Cert.Pre_finite_scores.fn (F := Ideal) x0 x1 x2).1 = (fun _ => 1#1) ∧ (Cert.Pre_finite_scores.fn (F := Ideal) x0 x1 x2).2 = (fun _ => 1#1)) :
    Fin₀ x0 x1 :=
  ⟨fun r j => real_of_cmp _ ((fst_at x0 x1 x2 r j).symm.trans (congrFun h.1 (ix2 r j))),
   fun r g e => real_of_cmp _ ((snd_at x0 x1 x2 r g e).symm.trans (congrFun h.2 (ix3 r g e)))⟩

end Cert.Fox.Pre

end
-- ==== Proof.InBody.lean ====
/-
  The input projection's body at one grid point, in its three kinds: the first point of a tile (the norm, the gate
  columns, the first half of the projection), the second (the other half), the third (the transposed values).
-/
module

public import proofs.«01_k».proof.Proof.Gen.Kernel2Ideal.Skeleton
public import proofs.«01_k».proof.Proof.Gen.Kernel2Ideal.Frame
public import Idealize.ShloMosaic.PureOps.BitExact
public import Idealize.ShloMosaic.Lib.Pipeline.TableIdle

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The scratch buffer. -/
abbrev hbuf : Memref sig .tc .vmem S512x2048 .bf16 := Memref.whole cc0_scratch0

/-- One row of the six modulation rows. -/
def rowOf (r : Nat) (h : ∀ a, (![0, r, 0] : Fin 3 → Nat) a + S1x1x2048.size a ≤ S1x6x2048.size a) (x : FVec F S1x6x2048 .f32) : FVec F S1x1x2048 .f32 :=
  fun j => x ((Rect.unit (s := S1x6x2048) ![0, r, 0] S1x1x2048.size h).emb j)

/-- The modulated norm of a tile of tokens, as the scratch buffer keeps it. -/
def hid (x0 : FVec F S512x2048 .f32) (x1 : FVec F S1x6x2048 .f32) (x2 : FVec F S1x2048 .f32) : FVec F S512x2048 .bf16 :=
  k0_pay2 x0 x2 (rowOf 1 inb_S1x6x2048_S1x1x2048_0_1_0 x1) (rowOf 0 inb_S1x6x2048_S1x1x2048_0_0_0 x1)

/-- The gate columns of a tile. -/
def gates (x0 : FVec F S512x2048 .f32) (x1 : FVec F S1x6x2048 .f32) (x2 : FVec F S1x2048 .f32) (x4 : FVec F S2048x128 .bf16) : FVec F S512x128 .f32 :=
  k0_pay3 x0 x2 (rowOf 1 inb_S1x6x2048_S1x1x2048_0_1_0 x1) (rowOf 0 inb_S1x6x2048_S1x1x2048_0_0_0 x1) x4

theorem load_unread {sp : Space} {S T : Shape} {e : EltTy} (M : Memref sig .tc sp S e) (h : M.IsWhole) (x : S.Idx → Elt F e) (r : Rect S) :
    M.view.readAt (Elt F) r.toLoadRect (h.unread x) = fun j => x (r.emb j) := by
  funext j
  rw [View.readAt_apply, h.read_unread]
  rfl

theorem box_whole {S : Shape} (off : Fin S.rank → Nat) (h0 : ∀ a, off a = 0) (h : ∀ a, off a + S.size a ≤ S.size a) (j : S.Idx) :
    (Rect.unit (s := S) off S.size h).emb j = j := by
  funext a; apply Fin.ext; simp [Rect.emb, LoadRect.idx, Rect.unit, h0 a]

theorem zero2 (a : Fin 2) : (![0, 0] : Fin 2 → Nat) a = 0 := by fin_cases a <;> rfl
theorem zero5 (a : Fin 5) : (![0, 0, 0, 0, 0] : Fin 5 → Nat) a = 0 := by fin_cases a <;> rfl

theorem load_whole {sp : Space} {S : Shape} {e : EltTy} (M : Memref sig .tc sp S e) (hM : M.IsWhole) (x : S.Idx → Elt F e) (off : Fin S.rank → Nat) (h0 : ∀ a, off a = 0)
    (h : ∀ a, off a + S.size a ≤ S.size a) : M.view.readAt (Elt F) (Rect.unit (s := S) off S.size h).toLoadRect (hM.unread x) = x := by
  rw [load_unread (T := S)]; funext j; rw [box_whole _ h0]

theorem load_row (M : Memref sig .tc .vmem S1x6x2048 .f32) (hM : M.IsWhole) (x : FVec F S1x6x2048 .f32) (r : Nat)
    (h : ∀ a, (![0, r, 0] : Fin 3 → Nat) a + S1x1x2048.size a ≤ S1x6x2048.size a) :
    M.view.readAt (Elt F) (Rect.unit (s := S1x6x2048) ![0, r, 0] S1x1x2048.size h).toLoadRect (hM.unread x) = rowOf r h x := load_unread (T := S1x1x2048) M hM x _

theorem read_store {sp : Space} {S : Shape} {e : EltTy} (v : View sig .tc sp S e) (f : v.ty.Contents (Elt F)) (off : Fin S.rank → Nat) (h0 : ∀ a, off a = 0)
    (h : ∀ a, off a + S.size a ≤ S.size a) (w : S.Idx → Elt F e) (L : List (View.Piece (Elt F) S e)) :
    v.read (Elt F) (v.writes (Elt F) f (⟨Rect.unit (s := S) off S.size h, w⟩ :: L)) = w := by
  funext j
  have := View.read_writes_cons_emb v f (Rect.unit (s := S) off S.size h) w L j
  rwa [box_whole _ h0] at this

theorem load_store {sp : Space} {S : Shape} {e : EltTy} (v : View sig .tc sp S e) (f : v.ty.Contents (Elt F)) (r : Rect S) (w : r.shape.Idx → Elt F e)
    (L : List (View.Piece (Elt F) S e)) : v.readAt (Elt F) r.toLoadRect (v.writes (Elt F) f (⟨r, w⟩ :: L)) = w :=
  funext fun j => View.read_writes_cons_emb v f r w L j

section
variable (c : Dev nD) (i : grid0.Coords)
  (arg2 : Memref sig .tc .vmem S512x2048 .f32) (harg2 : arg2.IsWhole) (arg3 : Memref sig .tc .vmem S1x6x2048 .f32) (harg3 : arg3.IsWhole)
  (arg4 : Memref sig .tc .vmem S1x2048 .f32) (harg4 : arg4.IsWhole) (arg5 : Memref sig .tc .vmem S2048x1792 .bf16) (harg5 : arg5.IsWhole)
  (arg6 : Memref sig .tc .vmem S2048x128 .bf16) (harg6 : arg6.IsWhole) (arg7 : Memref sig .tc .vmem S1x1792 .f32) (harg7 : arg7.IsWhole)
  (arg8 : Memref sig .tc .vmem S2048x1024 .bf16) (harg8 : arg8.IsWhole) (arg9 : Memref sig .tc .vmem S512x1792 .bf16) (harg9 : arg9.IsWhole)
  (arg10 : Memref sig .tc .vmem S512x128 .f32) (harg10 : arg10.IsWhole) (arg11 : Memref sig .tc .vmem S1x8x1x128x512 .bf16) (harg11 : arg11.IsWhole)
  (x0 : FVec F S512x2048 .f32) (x1 : FVec F S1x6x2048 .f32) (x2 : FVec F S1x2048 .f32) (x3 : FVec F S2048x1792 .bf16) (x4 : FVec F S2048x128 .bf16)
  (x5 : FVec F S1x1792 .f32) (x6 : FVec F S2048x1024 .bf16) (d7 : FVec F S512x1792 .bf16) (d8 : FVec F S512x128 .f32) (d9 : FVec F S1x8x1x128x512 .bf16)

/-- The scratch buffer at a tile's modulated norm. -/
def scr (H : FVec F S512x2048 .bf16) : sProp 𝕄 :=
  iprop(∃ f : Buf (Elt F) (hbuf.view.loc (c : Thread nD τ)), ((hbuf.view.loc (c : Thread nD τ)) ↦{fullShare} f) ∗
    ⌜hbuf.view.readAt (Elt F) (Rect.unit (s := S512x2048) ![0, 0] S512x2048.size inb_S512x2048_S512x2048_0_0).toLoadRect f = H⌝)

/-- The ten staged blocks. -/
def blocks (y7 : FVec F S512x1792 .bf16) (y8 : FVec F S512x128 .f32) (y9 : FVec F S1x8x1x128x512 .bf16) : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5
    ∗ owns (c : Thread nD τ) arg8 fullShare x6 ∗ owns (c : Thread nD τ) arg9 fullShare y7 ∗ owns (c : Thread nD τ) arg10 fullShare y8 ∗ owns (c : Thread nD τ) arg11 fullShare y9)

set_option maxHeartbeats 4000000 in
/-- The first point of a tile: the norm into the scratch buffer, the gate columns, the first half of the projection. -/
theorem point_first (h1 : k0_cond1 i = 1#1) (h2 : k0_cond2 i = 1#1) (h3 : ¬ k0_cond3 i = 1#1) (f12 : Buf (Elt F) (hbuf.view.loc (c : Thread nD τ))) :
    iprop(((hbuf.view.loc (c : Thread nD τ)) ↦{fullShare} f12) ∗ blocks c arg2 arg3 arg4 arg5 arg6 arg7 arg8 arg9 arg10 arg11 x0 x1 x2 x3 x4 x5 x6 d7 d8 d9)
    ⊢ wp frame (wpE (defs₀ (F := F)) Variants.none c none) Set.univ
        (cc0_inproj (F := F) i arg2 harg2 arg3 harg3 arg4 harg4 arg5 harg5 arg6 harg6 arg7 harg7 arg8 harg8 arg9 harg9 arg10 harg10 arg11 harg11 hbuf (Memref.isWhole_whole _))
        fun _ => iprop(scr c (hid x0 x1 x2) ∗ blocks c arg2 arg3 arg4 arg5 arg6 arg7 arg8 arg9 arg10 arg11 x0 x1 x2 x3 x4 x5 x6 (k0_pay4 (hid x0 x1 x2) x3 x5) (gates x0 x1 x2 x4) d9) := by
  rw [cc0_inproj_eq_skeleton]
  unfold cc0_inproj_skel blocks scr owns
  rw [harg2.set_eq_univ, harg3.set_eq_univ, harg4.set_eq_univ, harg5.set_eq_univ, harg6.set_eq_univ, harg7.set_eq_univ, harg8.set_eq_univ, harg9.set_eq_univ, harg10.set_eq_univ, harg11.set_eq_univ]
  iintro ⟨H12, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec
  sl_step
  isplitl [H12]
  · iexists _; isplitl [H12]; · iexact H12
    ipureintro
    refine (load_store _ _ _ _ _).trans ?_
    sl_unfold_words
    rw [load_whole (S := S512x2048) arg2 harg2 _ ![0, 0] zero2, load_whole (S := S1x2048) arg4 harg4 _ ![0, 0] zero2, load_row arg3 harg3 _ 1, load_row arg3 harg3 _ 0]
    rfl
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro
    refine (read_store _ _ _ zero2 _ _ _).trans ?_
    sl_unfold_words
    simp only [View.readCov_cons_toLoadRect]
    rw [load_whole (S := S512x2048) arg2 harg2 _ ![0, 0] zero2, load_whole (S := S1x2048) arg4 harg4 _ ![0, 0] zero2, load_row arg3 harg3 _ 1, load_row arg3 harg3 _ 0, load_whole (S := S2048x1792) arg5 harg5 _ ![0, 0] zero2, load_whole (S := S1x1792) arg7 harg7 _ ![0, 0] zero2]
    rfl
  isplitl [H10]
  · iexists _; isplitr; swap; · iexact H10
    ipureintro
    refine (read_store _ _ _ zero2 _ _ _).trans ?_
    sl_unfold_words
    rw [load_whole (S := S512x2048) arg2 harg2 _ ![0, 0] zero2, load_whole (S := S1x2048) arg4 harg4 _ ![0, 0] zero2, load_row arg3 harg3 _ 1, load_row arg3 harg3 _ 0, load_whole (S := S2048x128) arg6 harg6 _ ![0, 0] zero2]
    rfl
  iexists _; isplitr; swap; · iexact H11
  ipureintro; exact hf11

set_option maxHeartbeats 4000000 in
/-- The second point of a tile: the other half of the projection. -/
theorem point_second (h1 : ¬ k0_cond1 i = 1#1) (h2 : k0_cond2 i = 1#1) (h3 : ¬ k0_cond3 i = 1#1) (H : FVec F S512x2048 .bf16) :
    iprop(scr c H ∗ blocks c arg2 arg3 arg4 arg5 arg6 arg7 arg8 arg9 arg10 arg11 x0 x1 x2 x3 x4 x5 x6 d7 d8 d9)
    ⊢ wp frame (wpE (defs₀ (F := F)) Variants.none c none) Set.univ
        (cc0_inproj (F := F) i arg2 harg2 arg3 harg3 arg4 harg4 arg5 harg5 arg6 harg6 arg7 harg7 arg8 harg8 arg9 harg9 arg10 harg10 arg11 harg11 hbuf (Memref.isWhole_whole _))
        fun _ => iprop(scr c H ∗ blocks c arg2 arg3 arg4 arg5 arg6 arg7 arg8 arg9 arg10 arg11 x0 x1 x2 x3 x4 x5 x6 (k0_pay4 H x3 x5) d8 d9) := by
  rw [cc0_inproj_eq_skeleton]
  unfold cc0_inproj_skel blocks scr owns
  rw [harg2.set_eq_univ, harg3.set_eq_univ, harg4.set_eq_univ, harg5.set_eq_univ, harg6.set_eq_univ, harg7.set_eq_univ, harg8.set_eq_univ, harg9.set_eq_univ, harg10.set_eq_univ, harg11.set_eq_univ]
  iintro ⟨⟨%f12, H12, %h12⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec
  sl_step
  isplitl [H12]
  · iexists _; isplitl [H12]; · iexact H12
    ipureintro; exact h12
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro
    refine (read_store _ _ _ zero2 _ _ _).trans ?_
    sl_unfold_words
    rw [load_whole (S := S2048x1792) arg5 harg5 _ ![0, 0] zero2, load_whole (S := S1x1792) arg7 harg7 _ ![0, 0] zero2]
  isplitl [H10]
  · iexists _; isplitr; swap; · iexact H10
    ipureintro; exact hf10
  iexists _; isplitr; swap; · iexact H11
  ipureintro; exact hf11

set_option maxHeartbeats 4000000 in
/-- The third point of a tile: the transposed values. -/
theorem point_third (h1 : ¬ k0_cond1 i = 1#1) (h2 : ¬ k0_cond2 i = 1#1) (h3 : k0_cond3 i = 1#1) (H : FVec F S512x2048 .bf16) :
    iprop(scr c H ∗ blocks c arg2 arg3 arg4 arg5 arg6 arg7 arg8 arg9 arg10 arg11 x0 x1 x2 x3 x4 x5 x6 d7 d8 d9)
    ⊢ wp frame (wpE (defs₀ (F := F)) Variants.none c none) Set.univ
        (cc0_inproj (F := F) i arg2 harg2 arg3 harg3 arg4 harg4 arg5 harg5 arg6 harg6 arg7 harg7 arg8 harg8 arg9 harg9 arg10 harg10 arg11 harg11 hbuf (Memref.isWhole_whole _))
        fun _ => iprop(scr c H ∗ blocks c arg2 arg3 arg4 arg5 arg6 arg7 arg8 arg9 arg10 arg11 x0 x1 x2 x3 x4 x5 x6 d7 d8 (k0_pay5 x6 H)) := by
  rw [cc0_inproj_eq_skeleton]
  unfold cc0_inproj_skel blocks scr owns
  rw [harg2.set_eq_univ, harg3.set_eq_univ, harg4.set_eq_univ, harg5.set_eq_univ, harg6.set_eq_univ, harg7.set_eq_univ, harg8.set_eq_univ, harg9.set_eq_univ, harg10.set_eq_univ, harg11.set_eq_univ]
  iintro ⟨⟨%f12, H12, %h12⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8
  sl_exec
  sl_step
  isplitl [H12]
  · iexists _; isplitl [H12]; · iexact H12
    ipureintro; exact h12
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact hf9
  isplitl [H10]
  · iexists _; isplitr; swap; · iexact H10
    ipureintro; exact hf10
  iexists _; isplitr; swap; · iexact H11
  ipureintro
  refine (read_store _ _ _ zero5 _ _ _).trans ?_
  sl_unfold_words
  rw [load_whole (S := S2048x1024) arg8 harg8 _ ![0, 0] zero2]

end

end Cert.Inproj

end
-- ==== Proof.InRun.lean ====
/-
  The input projection's run: what every grid point leaves in each result's block as a function of the blocks read, and
  from it the whole program's run.
-/
module

public import proofs.«01_k».proof.Proof.InBody

@[expose] public section

set_option maxRecDepth 16384

noncomputable section

namespace Cert.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem N_eq : cfg0.N = 96 := N_0

/-- The first point of tile `k`. -/
def base (k : Nat) : Fin cfg0.N := ⟨3 * (k % 32), by rw [N_eq]; omega⟩

/-- The point that last stored the projection's block by `t`. -/
def lastO (t : Fin cfg0.N) : Fin cfg0.N := ⟨t.val - t.val % 3 / 2, Nat.lt_of_le_of_lt (Nat.sub_le _ _) t.isLt⟩

/-- The modulated norm of tile `k`, and its gate columns. -/
def hidAt (c : Dev nD) (k : Nat) : FVec F S512x2048 .bf16 := hid (iblk m c 0 (base k)) (iblk m c 1 (base k)) (iblk m c 2 (base k))
def gateAt (c : Dev nD) (k : Nat) : FVec F S512x128 .f32 := gates (iblk m c 0 (base k)) (iblk m c 1 (base k)) (iblk m c 2 (base k)) (iblk m c 4 (base k))

/-- The scratch buffer between points: inside a tile it holds the tile's modulated norm. -/
def mid (c : Dev nD) (n : Nat) : sProp 𝕄 :=
  iprop((∃ f : Buf (Elt F) (hbuf.view.loc (c : Thread nD τ)), ((hbuf.view.loc (c : Thread nD τ)) ↦{fullShare} f) ∗
      ⌜n % 3 ≠ 0 → hbuf.view.readAt (Elt F) (Rect.unit (s := S512x2048) ![0, 0] S512x2048.size inb_S512x2048_S512x2048_0_0).toLoadRect f = hidAt m c (n / 3)⌝)
    ∗ ∃ r, prngReg c r)

/-- The pipeline's data: each input's buffer keeps its block; the results' are left at what their last store put there. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay4 (hidAt m c (t.val / 3)) (iblk m c 3 (lastO t)) (iblk m c 5 (lastO t))
    | ⟨8, _⟩ => gateAt m c (t.val / 3)
    | ⟨9, _⟩ => k0_pay5 (iblk m c 6 t) (hidAt m c (t.val / 3))
  Φ t := mid m c t.val
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay4 (hidAt m c (t.val / 3)) (iblk m c 3 (lastO t)) (iblk m c 5 (lastO t)) := by dsimp only [dats]
theorem after0_8 (c : Dev nD) (t : Fin cfg0.N) : (dats m 0 c).after 8 t = gateAt m c (t.val / 3) := by dsimp only [dats]
theorem after0_9 (c : Dev nD) (t : Fin cfg0.N) : (dats m 0 c).after 9 t = k0_pay5 (iblk m c 6 t) (hidAt m c (t.val / 3)) := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem Φ_at (c : Dev nD) (t : Fin cfg0.N) : (dats m 0 c).Φ t.castSucc = mid m c t.val := by
  dsimp only [dats]; exact Pipeline.Dat.Φ_castSucc (fun n _ => mid m c n) t
theorem Φ_next (c : Dev nD) (t : Fin cfg0.N) : (dats m 0 c).Φ t.succ = mid m c (t.val + 1) := rfl

theorem cond1_at : ∀ t : Fin cfg0.N, k0_cond1 (grid0.coords t) = 1#1 ↔ t.val % 3 = 0 := by decide +kernel
theorem cond2_at : ∀ t : Fin cfg0.N, k0_cond2 (grid0.coords t) = 1#1 ↔ t.val % 3 ≠ 2 := by decide +kernel
theorem cond3_at : ∀ t : Fin cfg0.N, k0_cond3 (grid0.coords t) = 1#1 ↔ t.val % 3 = 2 := by decide +kernel
theorem flush7 : ∀ t : Fin cfg0.N, (cfg0.win 7).flush t = (t.val % 3 != 1) := by decide +kernel
theorem flush8 : ∀ t : Fin cfg0.N, (cfg0.win 8).flush t = (t.val % 3 == 2) := by decide +kernel
theorem flush9 : ∀ t : Fin cfg0.N, (cfg0.win 9).flush t = (t.val % 3 == 2) := by decide +kernel
theorem idle7 : ∀ t : Fin cfg0.N, cfg0.idle 7 (cfg0.grid.coords t) = (t.val % 3 == 2) := by decide +kernel
theorem idle8 : ∀ t : Fin cfg0.N, cfg0.idle 8 (cfg0.grid.coords t) = (t.val % 3 != 0) := by decide +kernel
theorem idle9 : ∀ t : Fin cfg0.N, cfg0.idle 9 (cfg0.grid.coords t) = (t.val % 3 != 2) := by decide +kernel

/-- Where the projection's buffer and the gate columns' hold nothing a point of the tile stored. -/
theorem fresh7 : ∀ n, n ≤ cfg0.N → cfg0.fresh 7 n = (n % 3 != 2) :=
  cfg0.fresh_tab 7 (fun n => n % 3 != 2) rfl fun t => by
    rw [flush7, idle7]
    have h := Nat.mod_lt t.val (show 0 < 3 by decide)
    rcases (by omega : t.val % 3 = 0 ∨ t.val % 3 = 1 ∨ t.val % 3 = 2) with h | h | h <;> simp [Nat.add_mod, h]
theorem fresh8 : ∀ n, n ≤ cfg0.N → cfg0.fresh 8 n = (n % 3 == 0) :=
  cfg0.fresh_tab 8 (fun n => n % 3 == 0) rfl fun t => by
    rw [flush8, idle8]
    have h := Nat.mod_lt t.val (show 0 < 3 by decide)
    rcases (by omega : t.val % 3 = 0 ∨ t.val % 3 = 1 ∨ t.val % 3 = 2) with h | h | h <;> simp [Nat.add_mod, h]

theorem carry7 (c : Dev nD) (t : Fin cfg0.N) (h0 : t.val ≠ 0) (h : t.val % 3 = 2) :
    (dats m 0 c).after 7 t = (dats m 0 c).after 7 ⟨t.val - 1, Nat.lt_of_le_of_lt (Nat.sub_le _ _) t.isLt⟩ := by
  have e : lastO t = lastO ⟨t.val - 1, Nat.lt_of_le_of_lt (Nat.sub_le _ _) t.isLt⟩ := Fin.ext (show t.val - t.val % 3 / 2 = t.val - 1 - (t.val - 1) % 3 / 2 by omega)
  rw [after0_7, after0_7, ← e, show (⟨t.val - 1, Nat.lt_of_le_of_lt (Nat.sub_le _ _) t.isLt⟩ : Fin cfg0.N).val / 3 = t.val / 3 from (by omega : (t.val - 1) / 3 = t.val / 3)]
theorem carry8 (c : Dev nD) (t : Fin cfg0.N) (h0 : t.val ≠ 0) (h : t.val % 3 ≠ 0) :
    (dats m 0 c).after 8 t = (dats m 0 c).after 8 ⟨t.val - 1, Nat.lt_of_le_of_lt (Nat.sub_le _ _) t.isLt⟩ := by
  rw [after0_8, after0_8, show (⟨t.val - 1, Nat.lt_of_le_of_lt (Nat.sub_le _ _) t.isLt⟩ : Fin cfg0.N).val / 3 = t.val / 3 from (by omega : (t.val - 1) / 3 = t.val / 3)]

theorem before0_7 (c : Dev nD) (t : Fin cfg0.N) (h : t.val % 3 = 2) (d) : (dats m 0 c).before 7 t d = (dats m 0 c).after 7 t := by
  have h0 : t.val ≠ 0 := by omega
  rw [Pipeline.Dat.before_out_traj (dats m 0 c) 7 rfl (fun _ _ => rfl) (fun t h0 hi _ => carry7 m c t h0 (by rw [idle7] at hi; exact by simpa using hi)) t.val t rfl d,
    if_neg (by rw [fresh7 _ (Nat.le_of_lt t.isLt), h]; decide)]
  exact (carry7 m c t h0 h).symm
theorem before0_8 (c : Dev nD) (t : Fin cfg0.N) (h : t.val % 3 = 2) (d) : (dats m 0 c).before 8 t d = (dats m 0 c).after 8 t := by
  have h0 : t.val ≠ 0 := by omega
  rw [Pipeline.Dat.before_out_traj (dats m 0 c) 8 rfl (fun _ _ => rfl) (fun t h0 hi _ => carry8 m c t h0 (by rw [idle8] at hi; exact by simpa using hi)) t.val t rfl d,
    if_neg (by rw [fresh8 _ (Nat.le_of_lt t.isLt), h]; decide)]
  exact (carry8 m c t h0 (by omega)).symm

theorem base_first (t : Fin cfg0.N) (h : t.val % 3 = 0) : base (t.val / 3) = t := Fin.ext (show 3 * (t.val / 3 % 32) = t.val by have := lt_of_lt_of_eq t.isLt N_eq; omega)
theorem lastO_of (t : Fin cfg0.N) (h : t.val % 3 ≠ 2) : lastO t = t := Fin.ext (show t.val - t.val % 3 / 2 = t.val by omega)

theorem mid_scr (c : Dev nD) (n k : Nat) (hk : n % 3 ≠ 0) (e : n / 3 = k) : (mid (F := F) m c n) = iprop(scr c (hidAt m c k) ∗ ∃ r, prngReg c r) := by
  subst e
  unfold mid scr
  simp only [hk, ne_eq, not_false_eq_true, forall_const]

set_option maxHeartbeats 1600000 in
theorem body_obligation (c : Dev nD) : BodyObligation (dats (F := F) m 0 c) (defs₀ (F := F)) Variants.none () Set.univ := fun t => by
  have hlt := Nat.mod_lt t.val (show 0 < 3 by decide)
  rw [bigSep_W0, bigSep_W0]
  sl_whnfR [defs₀, Defs.onTc]
  rw [show cfg0.idle 0 (cfg0.grid.coords t) = false from rfl]
  rw [idle7, idle8, idle9, flush7, flush8, flush9]
  simp only [before0_0, before0_1, before0_2, before0_3, before0_4, before0_5, before0_6]
  rw [show (dats m 0 c).owesAt () t.succ = (dats m 0 c).owesAt () t.castSucc from rfl, Φ_at, Φ_next, after0_0, after0_1, after0_2, after0_3, after0_4, after0_5, after0_6, after0_7, after0_8, after0_9]
  rcases (by omega : t.val % 3 = 0 ∨ t.val % 3 = 1 ∨ t.val % 3 = 2) with h | h | h
  · rw [mid_scr m c (t.val + 1) (t.val / 3) (by omega) (by omega), lastO_of t (by omega)]
    unfold hidAt gateAt mid
    rw [base_first t h]
    simp only [h, show ((0 : ℕ) == 2) = false from rfl, show ((0 : ℕ) != 0) = false from rfl, show ((0 : ℕ) != 1) = true from rfl, show ((0 : ℕ) != 2) = true from rfl]
    iintro ⟨⟨⟨%f12, Hs, -⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply wp_wand_r
    isplitl [Hs H0 H1 H2 H3 H4 H5 H6 H7 H8 H9]
    · iapply (point_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
        (iblk m c 0 t) (iblk m c 1 t) (iblk m c 2 t) (iblk m c 3 t) (iblk m c 4 t) (iblk m c 5 t) (iblk m c 6 t) _ _ _ ((cond1_at t).2 h) ((cond2_at t).2 (by omega)) (fun e => absurd ((cond3_at t).1 e) (by omega)) f12)
      isplitl [Hs]; · iexact Hs
      unfold blocks
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    unfold blocks
    iintro %_ ⟨Hs, H0, H1, H2, H3, H4, H5, H6, H7, H8, H9⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · rw [mid_scr m c (t.val + 1) (t.val / 3) (by omega) (by omega), mid_scr m c t.val (t.val / 3) (by omega) rfl, lastO_of t (by omega)]
    simp only [h, show ((1 : ℕ) == 2) = false from rfl, show ((1 : ℕ) != 0) = true from rfl, show ((1 : ℕ) != 1) = false from rfl, show ((1 : ℕ) != 2) = true from rfl]
    iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply wp_wand_r
    isplitl [Hs H0 H1 H2 H3 H4 H5 H6 H7 H8 H9]
    · iapply (point_second c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
        (iblk m c 0 t) (iblk m c 1 t) (iblk m c 2 t) (iblk m c 3 t) (iblk m c 4 t) (iblk m c 5 t) (iblk m c 6 t) _ _ _ (fun e => absurd ((cond1_at t).1 e) (by omega)) ((cond2_at t).2 (by omega)) (fun e => absurd ((cond3_at t).1 e) (by omega)) _)
      isplitl [Hs]; · iexact Hs
      unfold blocks
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    unfold blocks
    iintro %_ ⟨Hs, H0, H1, H2, H3, H4, H5, H6, H7, H8, H9⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · rw [mid_scr m c t.val (t.val / 3) (by omega) rfl]
    simp only [before0_7 m c t h, before0_8 m c t h, after0_7, after0_8]
    simp only [h, show ((2 : ℕ) == 2) = true from rfl, show ((2 : ℕ) != 0) = true from rfl, show ((2 : ℕ) != 1) = true from rfl, show ((2 : ℕ) != 2) = false from rfl]
    iintro ⟨⟨Hs, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply wp_wand_r
    isplitl [Hs H0 H1 H2 H3 H4 H5 H6 H7 H8 H9]
    · iapply (point_third c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
        (iblk m c 0 t) (iblk m c 1 t) (iblk m c 2 t) (iblk m c 3 t) (iblk m c 4 t) (iblk m c 5 t) (iblk m c 6 t) _ _ _ (fun e => absurd ((cond1_at t).1 e) (by omega)) (fun e => absurd h ((cond2_at t).1 e)) ((cond3_at t).2 h) _)
      isplitl [Hs]; · iexact Hs
      unfold blocks
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    unfold blocks
    iintro %_ ⟨Hs, H0, H1, H2, H3, H4, H5, H6, H7, H8, H9⟩
    isplitl [Hs Hr]
    · unfold scr mid
      icases Hs with ⟨%f12, Hs, %h12⟩
      isplitl [Hs]; swap; · iexact Hr
      iexists f12; isplitl [Hs]; · iexact Hs
      ipureintro; exact fun e => absurd (by omega) e
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem hin (c : Dev nD) : Pipeline.ΦA spec0 c ⊢ (dats (F := F) m 0 c).Φ 0 := by
  rw [show (dats (F := F) m 0 c).Φ 0 = mid m c 0 from rfl]
  unfold Pipeline.ΦA mid
  rw [scopedRest0_eq]
  iintro ⟨⟨%f, H0⟩, Hr⟩
  isplitr [Hr]; swap; · iexact Hr
  iexists f; isplitl [H0]; · iexact H0
  ipureintro; exact fun h => absurd rfl h

theorem hout (c : Dev nD) : (dats (F := F) m 0 c).Φ (Fin.last cfg0.N) ⊢ Pipeline.ΦA spec0 c := by
  rw [show (dats (F := F) m 0 c).Φ (Fin.last cfg0.N) = mid m c (Fin.last cfg0.N).val from rfl]
  unfold Pipeline.ΦA mid
  rw [scopedRest0_eq]
  iintro ⟨⟨%f, H0, -⟩, Hr⟩
  isplitr [Hr]; swap; · iexact Hr
  iexists f; iexact H0

set_option backward.isDefEq.respectTransparency.types false in
/-- From any memory with zero counters the program ends, each array at what the pipeline's data give it and every
    counter at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c w => by unfold Pipeline.Dat.share; split <;> rfl)
    (howed := fun _ _ => rfl) (V := V m) (hmain := hmain m Variants.none) (hA := fun _ _ => rfl) (hin := hin m) (hout := hout m)

end Cert.Inproj

end
-- ==== Proof.InRef.lean ====
/-
  The input projection's payloads and its reference read at an index over the extended reals.
-/
module

public import proofs.«01_k».proof.Proof.InRun
public import proofs.«01_k».proof.Proof.Gen.Reference2Ideal.Run
public import proofs.«01_k».proof.Proof.Gen.Reference2Ideal
public import Idealize.ShloMosaic.Lib.Pointwise
public import Idealize.ShloMosaic.Lib.Pipeline.ValueKit

@[expose] public section

set_option maxRecDepth 16384

noncomputable section

namespace Cert.Inproj

open Idealize.ShloMosaic Idealize.ShloMosaic.TcCoe Idealize.SL.Sem Idealize.ShloMosaic.StableHlo

/-- Entry `k` of a token's modulated norm: the token's row, the norm's weight, and the modulation's scale and shift. -/
def normed (x : Fin 2048 → EReal) (g scale shift : EReal) (k : Fin 2048) : EReal :=
  x k * Ideal.rsqrt (Ideal.div (∑ j, x j * x j) (Ideal.ofBits .f32 0x45000000#32) + Ideal.ofBits .f32 0x358637BD#32) * g * (1 + scale) + shift

section
open Cert.Kernel2Ideal Cert.Kernel2Ideal.Gen

theorem hid_at (x0 : FVec Ideal S512x2048 .f32) (x1 : FVec Ideal S1x6x2048 .f32) (x2 : FVec Ideal S1x2048 .f32) (q : Fin 512) (k : Fin 2048) :
    hid x0 x1 x2 (ix2 q k) = normed (fun j => x0 (ix2 q j)) (x2 (ix2 0 k)) (x1 (ix3 0 1 k)) (x1 (ix3 0 0 k)) k := by
  have e1 : (Rect.unit (s := S1x6x2048) ![0, 1, 0] S1x1x2048.size inb_S1x6x2048_S1x1x2048_0_1_0).emb (ix3 0 0 k) = ix3 0 1 k := by
    funext a; fin_cases a <;> apply Fin.ext <;> simp [Rect.emb, LoadRect.idx, Rect.unit, ix3]
  have e0 : (Rect.unit (s := S1x6x2048) ![0, 0, 0] S1x1x2048.size inb_S1x6x2048_S1x1x2048_0_0_0).emb (ix3 0 0 k) = ix3 0 0 k := by
    funext a; fin_cases a <;> apply Fin.ext <;> simp [Rect.emb, LoadRect.idx, Rect.unit, ix3]
  rw [← e1, ← e0]
  pointwise [hid, k0_pay2, k0_pay1, rowOf]
  rfl

theorem gates_at (x0 : FVec Ideal S512x2048 .f32) (x1 : FVec Ideal S1x6x2048 .f32) (x2 : FVec Ideal S1x2048 .f32) (x4 : FVec Ideal S2048x128 .bf16) (q : Fin 512) (a : Fin 128) :
    gates x0 x1 x2 x4 (ix2 q a) = ∑ k : Fin 2048, hid x0 x1 x2 (ix2 q k) * x4 (ix2 k a) := by
  pointwise [gates, k0_pay3, hid, k0_pay2]

theorem pay4_at (h : FVec Ideal S512x2048 .bf16) (w : FVec Ideal S2048x1792 .bf16) (s : FVec Ideal S1x1792 .f32) (q : Fin 512) (a : Fin 1792) :
    k0_pay4 (F := Ideal) h w s (ix2 q a) = (∑ k : Fin 2048, h (ix2 q k) * w (ix2 k a)) * s (ix2 0 a) := by
  pointwise [k0_pay4]

theorem pay5_at (w : FVec Ideal S2048x1024 .bf16) (h : FVec Ideal S512x2048 .bf16) (a : Fin 8) (d : Fin 128) (q : Fin 512) :
    k0_pay5 (F := Ideal) w h (ix5 0 a 0 d q) = ∑ k : Fin 2048, w (ix2 k ⟨a.val * 128 + d.val, by omega⟩) * h (ix2 q k) := by
  pointwise [k0_pay5]

end

namespace Ref

open Cert.Reference2Ideal Cert.Reference2Ideal.Gen

/-- The reference's modulated norm. -/
def rHid (x : FVec Ideal S16384x2048 .f32) (md : FVec Ideal S2x6x2048 .f32) (g : FVec Ideal S1x2048 .f32) : FVec Ideal S2x8192x2048 .f32 :=
  addf (mulf (mulf (mulf (shapeCast _ x shapeCasts_S16384x2048_S2x8192x2048) (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf (shapeCast _ x shapeCasts_S16384x2048_S2x8192x2048) (shapeCast _ x shapeCasts_S16384x2048_S2x8192x2048)) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![1, 2] bcast_S1x2048_S1x1x2048_1_2 g))) (broadcastInDim S2x8192x2048 ![0, 1, 2] bcast_S2x1x2048_S2x8192x2048_0_1_2 (addf (broadcastInDim S2x1x2048 ![] bcast_S_S2x1x2048 (constant S_ .f32 0x3F800000#32)) (extractStridedSlice S2x1x2048 ![0, 1, 0] md slices_S2x6x2048_S2x1x2048_0_1_0)))) (broadcastInDim S2x8192x2048 ![0, 1, 2] bcast_S2x1x2048_S2x8192x2048_0_1_2 (extractStridedSlice S2x1x2048 ![0, 0, 0] md slices_S2x6x2048_S2x1x2048_0_0_0))

/-- The reference's three results from the modulated norm. -/
def rProj (h : FVec Ideal S2x8192x2048 .f32) (w : FVec Ideal S2048x3584 .bf16) (s : FVec Ideal S1x3584 .f32) : FVec Ideal S16384x3584 .bf16 :=
  truncf .bf16 (shapeCast _ (mulf (Host.dotGeneral dot_S2x8192x2048_S2048x3584_S2x8192x3584_2_0_01_1_n_n none h (extf .f32 w bitsLt_bf16_f32)) (broadcastInDim S2x8192x3584 ![0, 1, 2] bcast_S1x1x3584_S2x8192x3584_0_1_2 (broadcastInDim S1x1x3584 ![1, 2] bcast_S1x3584_S1x1x3584_1_2 s))) shapeCasts_S2x8192x3584_S16384x3584) bitsLt_bf16_f32
def rGate (h : FVec Ideal S2x8192x2048 .f32) (w : FVec Ideal S2048x128 .bf16) : FVec Ideal S16384x128 .f32 :=
  shapeCast _ (Host.dotGeneral dot_S2x8192x2048_S2048x128_S2x8192x128_2_0_01_1_n_n none h (extf .f32 w bitsLt_bf16_f32)) shapeCasts_S2x8192x128_S16384x128
def rValT (h : FVec Ideal S2x8192x2048 .f32) (w : FVec Ideal S2048x1024 .bf16) : FVec Ideal S2x8x16x128x512 .bf16 :=
  truncf .bf16 (transpose S2x8x16x128x512 [0, 3, 1, 4, 2] (shapeCast _ (Host.dotGeneral dot_S2x8192x2048_S2048x1024_S2x8192x1024_2_0_01_1_n_n none h (extf .f32 w bitsLt_bf16_f32)) shapeCasts_S2x8192x1024_S2x16x512x8x128) transposes_S2x16x512x8x128_S2x8x16x128x512_0_3_1_4_2) bitsLt_bf16_f32

theorem rHid_at (x : FVec Ideal S16384x2048 .f32) (md : FVec Ideal S2x6x2048 .f32) (g : FVec Ideal S1x2048 .f32) (b : Fin 2) (t : Fin 8192) (k : Fin 2048) :
    rHid x md g (ix3 b t k) = normed (fun j => x (ix2 ⟨b.val * 8192 + t.val, by omega⟩ j)) (g (ix2 0 k)) (md (ix3 b 1 k)) (md (ix3 b 0 k)) k := by
  pointwise [rHid]
  rfl

theorem rProj_at (h : FVec Ideal S2x8192x2048 .f32) (w : FVec Ideal S2048x3584 .bf16) (s : FVec Ideal S1x3584 .f32) (r : Fin 16384) (a : Fin 3584) :
    rProj h w s (ix2 r a) = (∑ k : Fin 2048, h (ix3 ⟨r.val / 8192, by omega⟩ ⟨r.val % 8192, by omega⟩ k) * w (ix2 k a)) * s (ix2 0 a) := by
  pointwise [rProj]

theorem rGate_at (h : FVec Ideal S2x8192x2048 .f32) (w : FVec Ideal S2048x128 .bf16) (r : Fin 16384) (a : Fin 128) :
    rGate h w (ix2 r a) = ∑ k : Fin 2048, h (ix3 ⟨r.val / 8192, by omega⟩ ⟨r.val % 8192, by omega⟩ k) * w (ix2 k a) := by
  pointwise [rGate]

theorem rValT_at (h : FVec Ideal S2x8192x2048 .f32) (w : FVec Ideal S2048x1024 .bf16) (b : Fin 2) (p : Fin 8) (n : Fin 16) (d : Fin 128) (q : Fin 512) :
    rValT h w (ix5 b p n d q) = ∑ k : Fin 2048, h (ix3 b ⟨n.val * 512 + q.val, by omega⟩ k) * w (ix2 k ⟨p.val * 128 + d.val, by omega⟩) := by
  pointwise [rValT]

end Ref

end Cert.Inproj

end
-- ==== Proof.InValue.lean ====
/-
  The input projection's three results after its run, and their agreement with the reference's.
-/
module

public import proofs.«01_k».proof.Proof.InRef

@[expose] public section

set_option maxRecDepth 16384

noncomputable section

namespace Cert.Inproj

open Cert.Kernel2Ideal Cert.Kernel2Ideal.Gen
open Idealize.ShloMosaic Idealize.ShloMosaic.TcCoe Idealize.SL.Sem
open Idealize.ShloMosaic.Pipeline (Dat)

theorem index0 : ∀ t : Fin cfg0.N, win0_0.index t = ![t.val / 3, 0] := (by decide +kernel : ∀ t : Fin grid0.N, _)
theorem index1 : ∀ t : Fin cfg0.N, win0_1.index t = ![t.val / 48, 0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, min (t.val % 3) 1] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, min (t.val % 3) 1] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val / 3, min (t.val % 3) 1] := (by decide +kernel : ∀ t : Fin grid0.N, _)
theorem index8 : ∀ t : Fin cfg0.N, win0_8.index t = ![t.val / 3, 0] := (by decide +kernel : ∀ t : Fin grid0.N, _)
theorem index9 : ∀ t : Fin cfg0.N, win0_9.index t = ![t.val / 48, 0, t.val / 3 % 16, 0, 0] := (by decide +kernel : ∀ t : Fin grid0.N, _)

variable (m : (ℓ : Loc nD τ sig) → Buf (Elt Ideal) ℓ) (c : Dev nD)

/-- The arguments as arrays. -/
abbrev X0 : FVec Ideal S16384x2048 .f32 := m ((c : Thread nD τ).loc main_arg0)
abbrev X1 : FVec Ideal S2x6x2048 .f32 := m ((c : Thread nD τ).loc main_arg1)
abbrev X2 : FVec Ideal S1x2048 .f32 := m ((c : Thread nD τ).loc main_arg2)
abbrev X3 : FVec Ideal S2048x3584 .bf16 := m ((c : Thread nD τ).loc main_arg3)
abbrev X4 : FVec Ideal S2048x128 .bf16 := m ((c : Thread nD τ).loc main_arg4)
abbrev X5 : FVec Ideal S1x3584 .f32 := m ((c : Thread nD τ).loc main_arg5)
abbrev X6 : FVec Ideal S2048x1024 .bf16 := m ((c : Thread nD τ).loc main_arg6)

theorem lt96 (t : Fin cfg0.N) : t.val < 96 := lt_of_lt_of_eq t.isLt N_eq

theorem iblk0 (t : Fin cfg0.N) (q : Fin 512) (j : Fin 2048) : iblk m c 0 t (ix2 q j) = X0 m c (ix2 ⟨t.val / 3 * 512 + q.val, by have := lt96 t; omega⟩ j) := by
  blk_simp [iblk]
  refine congrArg (X0 m c) ?_
  have := lt96 t
  blk_ext [index0]

theorem iblk1 (t : Fin cfg0.N) (r : Fin 6) (j : Fin 2048) : iblk m c 1 t (ix3 0 r j) = X1 m c (ix3 ⟨t.val / 48, by have := lt96 t; omega⟩ r j) := by
  blk_simp [iblk]
  refine congrArg (X1 m c) ?_
  have := lt96 t
  blk_ext [index1]

theorem iblk2 (t : Fin cfg0.N) (j : Fin 2048) : iblk m c 2 t (ix2 0 j) = X2 m c (ix2 0 j) := by
  blk_simp [iblk]
  refine congrArg (X2 m c) ?_
  blk_ext [index2]

theorem iblk3 (t : Fin cfg0.N) (k : Fin 2048) (a : Fin 1792) : iblk m c 3 t (ix2 k a) = X3 m c (ix2 k ⟨min (t.val % 3) 1 * 1792 + a.val, by omega⟩) := by
  blk_simp [iblk]
  refine congrArg (X3 m c) ?_
  blk_ext [index3]

theorem iblk4 (t : Fin cfg0.N) (k : Fin 2048) (a : Fin 128) : iblk m c 4 t (ix2 k a) = X4 m c (ix2 k a) := by
  blk_simp [iblk]
  refine congrArg (X4 m c) ?_
  blk_ext [index4]

theorem iblk5 (t : Fin cfg0.N) (a : Fin 1792) : iblk m c 5 t (ix2 0 a) = X5 m c (ix2 0 ⟨min (t.val % 3) 1 * 1792 + a.val, by omega⟩) := by
  blk_simp [iblk]
  refine congrArg (X5 m c) ?_
  blk_ext [index5]

theorem iblk6 (t : Fin cfg0.N) (k : Fin 2048) (a : Fin 1024) : iblk m c 6 t (ix2 k a) = X6 m c (ix2 k a) := by
  blk_simp [iblk]
  refine congrArg (X6 m c) ?_
  blk_ext [index6]

/-- Entry `k` of the modulated norm of token `r`. -/
def tok (r : Fin 16384) (k : Fin 2048) : EReal :=
  normed (fun j => X0 m c (ix2 r j)) (X2 m c (ix2 0 k)) (X1 m c (ix3 ⟨r.val / 8192, by omega⟩ 1 k)) (X1 m c (ix3 ⟨r.val / 8192, by omega⟩ 0 k)) k

/-- The three result arrays. -/
def G7 (j : S16384x3584.Idx) : EReal := (∑ k : Fin 2048, tok m c (j 0) k * X3 m c (ix2 k (j 1))) * X5 m c (ix2 0 (j 1))
def G8 (j : S16384x128.Idx) : EReal := ∑ k : Fin 2048, tok m c (j 0) k * X4 m c (ix2 k (j 1))
def G9 (j : S2x8x16x128x512.Idx) : EReal :=
  ∑ k : Fin 2048, tok m c ⟨(j 0).val * 8192 + ((j 2).val * 512 + (j 4).val), by
      have h0 := (j 0).isLt; have h2 := (j 2).isLt; have h4 := (j 4).isLt; change _ < 2 at h0; change _ < 16 at h2; change _ < 512 at h4; omega⟩ k
    * X6 m c (ix2 k ⟨(j 1).val * 128 + (j 3).val, by have h1 := (j 1).isLt; have h3 := (j 3).isLt; change _ < 8 at h1; change _ < 128 at h3; omega⟩)

theorem hidAt_at (k : ℕ) (hk : k < 32) (q : Fin 512) (j : Fin 2048) : hidAt m c k (ix2 q j) = tok m c ⟨k * 512 + q.val, by omega⟩ j := by
  have e : (base k).val / 3 = k := by show 3 * (k % 32) / 3 = k; omega
  have e' : (base k).val / 48 = (k * 512 + q.val) / 8192 := by show 3 * (k % 32) / 48 = _; omega
  unfold hidAt
  rw [hid_at, iblk1, iblk1, iblk2]
  simp only [iblk0, e, e']
  rfl

theorem final7 : (dats m 0 c).arrAt 7 cfg0.N = (G7 m c : Buf (Elt Ideal) ((c : Thread nD τ).loc main_v0_0)) := by
  refine (dats m 0 c).arrAt_eq_of_covers 7 _ (by decide +kernel) fun t hf' y => ?_
  blk_simp
  rw [after0_7]
  obtain ⟨q, a, rfl⟩ : ∃ (q : Fin 512) (a : Fin 1792), y = ix2 q a := ⟨y 0, y 1, eq_ix2 y⟩
  have := lt96 t
  have e : min ((lastO t).val % 3) 1 = min (t.val % 3) 1 := by
    show min ((t.val - t.val % 3 / 2) % 3) 1 = _
    rcases (by omega : t.val % 3 = 0 ∨ t.val % 3 = 1 ∨ t.val % 3 = 2) with h | h | h <;> rw [h] <;> omega
  rw [pay4_at, iblk5]
  simp only [hidAt_at m c (t.val / 3) (by omega), iblk3, e]
  refine (show _ = G7 m c (ix2 ⟨t.val / 3 * 512 + q.val, by omega⟩ ⟨min (t.val % 3) 1 * 1792 + a.val, by omega⟩) from rfl).trans (congrArg (G7 m c) ?_)
  blk_ext [index7]

theorem final8 : (dats m 0 c).arrAt 8 cfg0.N = (G8 m c : Buf (Elt Ideal) ((c : Thread nD τ).loc main_v0_1)) := by
  refine (dats m 0 c).arrAt_eq_of_covers 8 _ (by decide +kernel) fun t hf' y => ?_
  blk_simp
  rw [after0_8]
  obtain ⟨q, a, rfl⟩ : ∃ (q : Fin 512) (a : Fin 128), y = ix2 q a := ⟨y 0, y 1, eq_ix2 y⟩
  have := lt96 t
  unfold gateAt
  rw [gates_at]
  change ∑ k : Fin 2048, hidAt m c (t.val / 3) (ix2 q k) * _ = _
  simp only [hidAt_at m c (t.val / 3) (by omega), iblk4]
  refine (show _ = G8 m c (ix2 ⟨t.val / 3 * 512 + q.val, by omega⟩ a) from rfl).trans (congrArg (G8 m c) ?_)
  blk_ext [index8]

theorem final9 : (dats m 0 c).arrAt 9 cfg0.N = (G9 m c : Buf (Elt Ideal) ((c : Thread nD τ).loc main_v0_2)) := by
  refine (dats m 0 c).arrAt_eq_of_covers 9 _ (by decide +kernel) fun t hf' y => ?_
  blk_simp
  rw [after0_9]
  obtain ⟨a, d, q, rfl⟩ : ∃ (a : Fin 8) (d : Fin 128) (q : Fin 512), y = ix5 0 a 0 d q := ⟨y 1, y 3, y 4, by
    rw [eq_ix5 y]
    congr 1
    · exact Subsingleton.elim (α := Fin 1) _ _
    · exact Subsingleton.elim (α := Fin 1) _ _⟩
  have := lt96 t
  rw [pay5_at]
  simp only [hidAt_at m c (t.val / 3) (by omega), iblk6]
  rw [Finset.sum_congr rfl fun (k : Fin 2048) _ => mul_comm (X6 m c (ix2 k ⟨a.val * 128 + d.val, by omega⟩)) (tok m c ⟨t.val / 3 * 512 + q.val, by omega⟩ k)]
  have er : (⟨t.val / 3 * 512 + q.val, by omega⟩ : Fin 16384) = ⟨t.val / 48 * 8192 + (t.val / 3 % 16 * 512 + q.val), by omega⟩ := Fin.ext (show t.val / 3 * 512 + q.val = t.val / 48 * 8192 + (t.val / 3 % 16 * 512 + q.val) by omega)
  rw [er]
  refine (show _ = G9 m c (ix5 ⟨t.val / 48, by omega⟩ a ⟨t.val / 3 % 16, by omega⟩ d q) from rfl).trans (congrArg (G9 m c) ?_)
  blk_ext [index9]

theorem rHid_eq (r : Fin 16384) (k : Fin 2048) : Ref.rHid (X0 m c) (X1 m c) (X2 m c) (ix3 ⟨r.val / 8192, by omega⟩ ⟨r.val % 8192, by omega⟩ k) = tok m c r k := by
  rw [Ref.rHid_at]
  have e : (⟨r.val / 8192 * 8192 + r.val % 8192, by omega⟩ : Fin 16384) = r := Fin.ext (Nat.div_add_mod' _ _)
  unfold tok
  simp only [e]

theorem ref7 : Ref.rProj (Ref.rHid (X0 m c) (X1 m c) (X2 m c)) (X3 m c) (X5 m c) = G7 m c := by
  funext j
  obtain ⟨r, a, rfl⟩ : ∃ (r : Fin 16384) (a : Fin 3584), j = ix2 r a := ⟨j 0, j 1, eq_ix2 j⟩
  rw [Ref.rProj_at]
  simp only [rHid_eq]
  rfl

theorem ref8 : Ref.rGate (Ref.rHid (X0 m c) (X1 m c) (X2 m c)) (X4 m c) = G8 m c := by
  funext j
  obtain ⟨r, a, rfl⟩ : ∃ (r : Fin 16384) (a : Fin 128), j = ix2 r a := ⟨j 0, j 1, eq_ix2 j⟩
  rw [Ref.rGate_at]
  simp only [rHid_eq]
  rfl

theorem ref9 : Ref.rValT (Ref.rHid (X0 m c) (X1 m c) (X2 m c)) (X6 m c) = G9 m c := by
  funext j
  obtain ⟨b, p, n, d, q, rfl⟩ : ∃ (b : Fin 2) (p : Fin 8) (n : Fin 16) (d : Fin 128) (q : Fin 512), j = ix5 b p n d q := ⟨j 0, j 1, j 2, j 3, j 4, eq_ix5 j⟩
  rw [Ref.rValT_at]
  refine Finset.sum_congr rfl fun k _ => congrArg (· * _) ?_
  refine Eq.trans ?_ (rHid_eq m c ⟨b.val * 8192 + (n.val * 512 + q.val), by omega⟩ k)
  refine congrArg (Ref.rHid (X0 m c) (X1 m c) (X2 m c)) ?_
  have eb : b = ⟨(b.val * 8192 + (n.val * 512 + q.val)) / 8192, by omega⟩ := Fin.ext (show b.val = (b.val * 8192 + (n.val * 512 + q.val)) / 8192 by omega)
  have et : (⟨n.val * 512 + q.val, by omega⟩ : Fin 8192) = ⟨(b.val * 8192 + (n.val * 512 + q.val)) % 8192, by omega⟩ := Fin.ext (show n.val * 512 + q.val = (b.val * 8192 + (n.val * 512 + q.val)) % 8192 by omega)
  exact congrArg₂ (fun u v => ix3 u v k) eb et

end Cert.Inproj

end
-- ==== Proof.lean ====
/-
  The claims, of the attention call and of the input projection: the frames of each as printed and idealized and of its
  reference, that the idealization rewrites nothing, and that call and reference leave the same arrays.
-/
module

public import proofs.«01_k».proof.Defs
public import proofs.«01_k».proof.Proof.Gen.Kernel
public import proofs.«01_k».proof.Proof.Gen.Kernel2
public import proofs.«01_k».proof.Proof.Gen.Kernel.Skeleton
public import proofs.«01_k».proof.Proof.Gen.Kernel2.Skeleton
public import proofs.«01_k».proof.Proof.Gen.Kernel.Loops
public import proofs.«01_k».proof.Proof.Gen.Kernel.Launch
public import proofs.«01_k».proof.Proof.Gen.Kernel2.Launch
public import proofs.«01_k».proof.Proof.Gen.Kernel.Points
public import proofs.«01_k».proof.Proof.Gen.Kernel2.Points
public import proofs.«01_k».proof.Proof.Gen.Kernel.Frame
public import proofs.«01_k».proof.Proof.Gen.Kernel2.Frame
public import proofs.«01_k».proof.Proof.Gen.KernelIdeal
public import proofs.«01_k».proof.Proof.Gen.Kernel2Ideal
public import proofs.«01_k».proof.Proof.Gen.KernelIdeal.Skeleton
public import proofs.«01_k».proof.Proof.Gen.Kernel2Ideal.Skeleton
public import proofs.«01_k».proof.Proof.Gen.KernelIdeal.Loops
public import proofs.«01_k».proof.Proof.Gen.KernelIdeal.Launch
public import proofs.«01_k».proof.Proof.Gen.Kernel2Ideal.Launch
public import proofs.«01_k».proof.Proof.Gen.KernelIdeal.Points
public import proofs.«01_k».proof.Proof.Gen.Kernel2Ideal.Points
public import proofs.«01_k».proof.Proof.Gen.KernelIdeal.Frame
public import proofs.«01_k».proof.Proof.Gen.Kernel2Ideal.Frame
public import proofs.«01_k».proof.Proof.Gen.ReferenceIdeal
public import proofs.«01_k».proof.Proof.Gen.Reference2Ideal
public import proofs.«01_k».proof.Proof.Gen.ReferenceIdeal.Run
public import proofs.«01_k».proof.Proof.Gen.Reference2Ideal.Run
public import proofs.«01_k».proof.Proof.Run
public import proofs.«01_k».proof.Proof.Arr
public import proofs.«01_k».proof.Proof.Pre
public import proofs.«01_k».proof.Proof.InValue
public import Idealize.ShloMosaic.Adequacy
public import Idealize.ShloMosaic.Init

@[expose] public section

noncomputable section

namespace Cert.Proof

open Idealize.ShloMosaic Idealize.ShloMosaic.TcCoe Idealize.SL.Sem

theorem frame_kernelideal : Cert.quiescent_KernelIdeal := fun m ρ _ =>
  θ_run_with_sems (Cert.KernelIdeal.Gen.frame_of m ρ (Cert.Fox.dats m) fun _ _ => rfl) (Cert.Fox.run_main (F := Ideal) m ρ)

/-- The printed call's table of bodies is the idealized one's: both texts are the same. -/
theorem bodies_eq : Cert.Kernel.defs₀ (F := Bits) = Cert.KernelIdeal.defs₀ (F := Bits) := by
  unfold Cert.Kernel.defs₀ Cert.KernelIdeal.defs₀
  congr 1
  funext l a
  match l, a with
  | ⟨0, _⟩, (t, s) => rfl
  | ⟨n + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) bodies_eq

/-- So its run is the same theorem at the printed values. -/
theorem frame_kernel : Cert.quiescent_Kernel := fun m ρ _ => by
  rw [defs_eq]
  exact θ_run_with_sems (Cert.KernelIdeal.Gen.frame_of m ρ (Cert.Fox.dats m) fun _ _ => rfl) (Cert.Fox.run_main (F := Bits) m ρ)

theorem frame_referenceideal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Where the scores are finite the attention call and the reference leave the same array. -/
theorem algebraic : Cert.algebraic_KernelIdeal_ReferenceIdeal_pre_finite_scores := by
  intro m g m' g' hpre hargs
  have hf := fun c => Cert.Fox.Pre.finite _ _ _ (hpre c)
  refine ⟨fun c => Cert.Fox.G m c, ?_, ?_⟩
  · have hA := Cert.KernelIdeal.Gen.frame_of m g (Cert.Fox.dats m) (fun _ _ => rfl) (Cert.Fox.run_main (F := Ideal) m g |> (θ_run Cert.KernelIdeal.defs _ _).mono fun _ h => h.1)
    refine (θ_run Cert.KernelIdeal.defs _ _).mono (fun r h c => ⟨?_, h.2 c⟩) (θ_run_and ((θ_run Cert.KernelIdeal.defs _ _).mono (fun _ h => h.1) (Cert.Fox.run_main (F := Ideal) m g)) hA)
    exact ((h.1 c).1 4).trans (Cert.Fox.final m c (hf c))
  · refine (θ_run Cert.ReferenceIdeal.defs _ _).mono (fun r h c => ⟨(h c).1.trans ?_, (h c).2⟩) (Cert.ReferenceIdeal.Value.run (F := Ideal) m' g')
    exact Cert.Fox.ref_eq m c (hf c) m' c (hargs c).1 (hargs c).2.1 (hargs c).2.2

theorem frame_kernel2ideal : Cert.quiescent_Kernel2Ideal := fun m ρ _ =>
  θ_run_with_sems (Cert.Kernel2Ideal.Gen.frame_of m ρ (Cert.Inproj.dats m) fun _ _ => rfl) (Cert.Inproj.run_main (F := Ideal) m ρ)

/-- The printed projection's table of bodies is the idealized one's: both texts are the same. -/
theorem bodies2_eq : Cert.Kernel2.defs₀ (F := Bits) = Cert.Kernel2Ideal.defs₀ (F := Bits) := by
  unfold Cert.Kernel2.defs₀ Cert.Kernel2Ideal.defs₀
  congr 1
  funext l a
  match l, a with
  | ⟨0, _⟩, (t, s) => rfl
  | ⟨n + 1, h⟩, _ => exact absurd h (Nat.not_lt.2 (Nat.le_add_left _ _))

theorem defs2_eq : Cert.Kernel2.defs (F := Bits) = Cert.Kernel2Ideal.defs (F := Bits) :=
  congrArg (Pipeline.defs Cert.Kernel2Ideal.pcfgs) bodies2_eq

theorem frame_kernel2 : Cert.quiescent_Kernel2 := fun m ρ _ => by
  rw [defs2_eq]
  exact θ_run_with_sems (Cert.Kernel2Ideal.Gen.frame_of m ρ (Cert.Inproj.dats m) fun _ _ => rfl) (Cert.Inproj.run_main (F := Bits) m ρ)

theorem frame_reference2ideal : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The projection and its reference leave the same three arrays, for every input. -/
theorem algebraic2 : Cert.algebraic_Kernel2Ideal_Reference2Ideal := by
  intro m g m' g' _ hargs
  refine ⟨fun c => Cert.Inproj.G7 m c, fun c => Cert.Inproj.G8 m c, fun c => Cert.Inproj.G9 m c, ?_, ?_⟩
  · have hA := Cert.Kernel2Ideal.Gen.frame_of m g (Cert.Inproj.dats m) (fun _ _ => rfl) (Cert.Inproj.run_main (F := Ideal) m g |> (θ_run Cert.Kernel2Ideal.defs _ _).mono fun _ h => h.1)
    refine (θ_run Cert.Kernel2Ideal.defs _ _).mono (fun r h c => ⟨?_, ?_, ?_, h.2 c⟩) (θ_run_and ((θ_run Cert.Kernel2Ideal.defs _ _).mono (fun _ h => h.1) (Cert.Inproj.run_main (F := Ideal) m g)) hA)
    · exact ((h.1 c).1 7).trans (Cert.Inproj.final7 m c)
    · exact ((h.1 c).1 8).trans (Cert.Inproj.final8 m c)
    · exact ((h.1 c).1 9).trans (Cert.Inproj.final9 m c)
  · refine (θ_run Cert.Reference2Ideal.defs _ _).mono (fun r h c => ⟨(h c).1.trans ?_, (h c).2.1.trans ?_, (h c).2.2.1.trans ?_, (h c).2.2.2⟩) (Cert.Reference2Ideal.Value.run (F := Ideal) m' g')
    all_goals obtain ⟨h0, h1, h2, h3, h4, h5, h6⟩ := hargs c
    · rw [h0, h1, h2, h3, h5]; exact Cert.Inproj.ref7 m c
    · rw [h0, h1, h2, h4]; exact Cert.Inproj.ref8 m c
    · rw [h0, h1, h2, h6]; exact Cert.Inproj.ref9 m c

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Fox.Pre.preFacts,
  frame_kernel, frame_kernelideal, fun m ρ _ => frame_kernelideal m ρ trivial, frame_referenceideal, fun m ρ _ => frame_referenceideal m ρ trivial,
  frame_kernel2, frame_kernel2ideal, frame_reference2ideal, trivial, algebraic, trivial, algebraic2⟩

end Cert.Proof

end
